-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_cst_16) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x56x56 : Shape := ⟨4, ![4, 256, 56, 56]⟩
abbrev S4x512x28x28 : Shape := ⟨4, ![4, 512, 28, 28]⟩
abbrev S4x1024x14x14 : Shape := ⟨4, ![4, 1024, 14, 14]⟩
abbrev S1792x1794 : Shape := ⟨2, ![1792, 1794]⟩
abbrev S1792 : Shape := ⟨1, ![1792]⟩
abbrev S1792x3136 : Shape := ⟨2, ![1792, 3136]⟩
abbrev S_ : Shape := ⟨0, ![]⟩

class Facts : Prop where
  bcast_S_S4x256x56x56 : S_.BroadcastsInDim S4x256x56x56 (![] : Fin 0 → Fin S4x256x56x56.rank)
  reducesTo_S4x256x56x56_S_d0_1_2_3 : S4x256x56x56.ReducesTo [0, 1, 2, 3] S_
  h_S_ : 0 < S_.numel
  bcast_S_S4x512x28x28 : S_.BroadcastsInDim S4x512x28x28 (![] : Fin 0 → Fin S4x512x28x28.rank)
  reducesTo_S4x512x28x28_S_d0_1_2_3 : S4x512x28x28.ReducesTo [0, 1, 2, 3] S_
  bcast_S_S4x1024x14x14 : S_.BroadcastsInDim S4x1024x14x14 (![] : Fin 0 → Fin S4x1024x14x14.rank)
  reducesTo_S4x1024x14x14_S_d0_1_2_3 : S4x1024x14x14.ReducesTo [0, 1, 2, 3] S_
  bcast_S_S1792x1794 : S_.BroadcastsInDim S1792x1794 (![] : Fin 0 → Fin S1792x1794.rank)
  reducesTo_S1792x1794_S_d0_1 : S1792x1794.ReducesTo [0, 1] S_
  bcast_S_S1792 : S_.BroadcastsInDim S1792 (![] : Fin 0 → Fin S1792.rank)
  reducesTo_S1792_S_d0 : S1792.ReducesTo [0] S_
  bcast_S_S1792x3136 : S_.BroadcastsInDim S1792x3136 (![] : Fin 0 → Fin S1792x3136.rank)
  reducesTo_S1792x3136_S_d0_1 : S1792x3136.ReducesTo [0, 1] S_

variable [Facts]

def fn_part1 {F : FTy → Type} [FloatOps F] (main_arg4 : FVec F S1792 .f32) (main_arg5 : FVec F S1792x3136 .f32) (main_v13 : IVec S_ 1) (main_v16 : IVec S1792x1794 1) : IVec S_ 1 :=
  let main_c_5 : IVec S_ 1 := constantI S_ 1 1#1
  let main_v17 : IVec S_ 1 := (fun x v => Host.reduce IntOp.andi x v reducesTo_S1792x1794_S_d0_1 h_S_) main_v16 main_c_5
  let main_v18 : IVec S_ 1 := andi main_v13 main_v17
  let main_v19 : FVec F S1792 .f32 := Host.absf main_arg4
  let main_cst_6 : FVec F S_ .f32 := constant S_ .f32 0x7F800000#32
  let main_v20 : FVec F S1792 .f32 := broadcastInDim S1792 ![] bcast_S_S1792 main_cst_6
  let main_v21 : IVec S1792 1 := cmpf .olt main_v19 main_v20
  let main_c_7 : IVec S_ 1 := constantI S_ 1 1#1
  let main_v22 : IVec S_ 1 := (fun x v => Host.reduce IntOp.andi x v reducesTo_S1792_S_d0 h_S_) main_v21 main_c_7
  let main_v23 : IVec S_ 1 := andi main_v18 main_v22
  let main_v24 : FVec F S1792x3136 .f32 := Host.absf main_arg5
  let main_cst_8 : FVec F S_ .f32 := constant S_ .f32 0x7F800000#32
  let main_v25 : FVec F S1792x3136 .f32 := broadcastInDim S1792x3136 ![] bcast_S_S1792x3136 main_cst_8
  let main_v26 : IVec S1792x3136 1 := cmpf .olt main_v24 main_v25
  let main_c_9 : IVec S_ 1 := constantI S_ 1 1#1
  let main_v27 : IVec S_ 1 := (fun x v => Host.reduce IntOp.andi x v reducesTo_S1792x3136_S_d0_1 h_S_) main_v26 main_c_9
  let main_v28 : IVec S_ 1 := andi main_v23 main_v27
  main_v28

def fn {F : FTy → Type} [FloatOps F] (main_arg0 : FVec F S4x256x56x56 .f32) (main_arg1 : FVec F S4x512x28x28 .f32) (main_arg2 : FVec F S4x1024x14x14 .f32) (main_arg3 : FVec F S1792x1794 .f32) (main_arg4 : FVec F S1792 .f32) (main_arg5 : FVec F S1792x3136 .f32) : IVec S_ 1 :=
  let main_v0 : FVec F S4x256x56x56 .f32 := Host.absf main_arg0
  let main_cst : FVec F S_ .f32 := constant S_ .f32 0x7F800000#32
  let main_v1 : FVec F S4x256x56x56 .f32 := broadcastInDim S4x256x56x56 ![] bcast_S_S4x256x56x56 main_cst
  let main_v2 : IVec S4x256x56x56 1 := cmpf .olt main_v0 main_v1
  let main_c : IVec S_ 1 := constantI S_ 1 1#1
  let main_v3 : IVec S_ 1 := (fun x v => Host.reduce IntOp.andi x v reducesTo_S4x256x56x56_S_d0_1_2_3 h_S_) main_v2 main_c
  let main_v4 : FVec F S4x512x28x28 .f32 := Host.absf main_arg1
  let main_cst_0 : FVec F S_ .f32 := constant S_ .f32 0x7F800000#32
  let main_v5 : FVec F S4x512x28x28 .f32 := broadcastInDim S4x512x28x28 ![] bcast_S_S4x512x28x28 main_cst_0
  let main_v6 : IVec S4x512x28x28 1 := cmpf .olt main_v4 main_v5
  let main_c_1 : IVec S_ 1 := constantI S_ 1 1#1
  let main_v7 : IVec S_ 1 := (fun x v => Host.reduce IntOp.andi x v reducesTo_S4x512x28x28_S_d0_1_2_3 h_S_) main_v6 main_c_1
  let main_v8 : IVec S_ 1 := andi main_v3 main_v7
  let main_v9 : FVec F S4x1024x14x14 .f32 := Host.absf main_arg2
  let main_cst_2 : FVec F S_ .f32 := constant S_ .f32 0x7F800000#32
  let main_v10 : FVec F S4x1024x14x14 .f32 := broadcastInDim S4x1024x14x14 ![] bcast_S_S4x1024x14x14 main_cst_2
  let main_v11 : IVec S4x1024x14x14 1 := cmpf .olt main_v9 main_v10
  let main_c_3 : IVec S_ 1 := constantI S_ 1 1#1
  let main_v12 : IVec S_ 1 := (fun x v => Host.reduce IntOp.andi x v reducesTo_S4x1024x14x14_S_d0_1_2_3 h_S_) main_v11 main_c_3
  let main_v13 : IVec S_ 1 := andi main_v8 main_v12
  let main_v14 : FVec F S1792x1794 .f32 := Host.absf main_arg3
  let main_cst_4 : FVec F S_ .f32 := constant S_ .f32 0x7F800000#32
  let main_v15 : FVec F S1792x1794 .f32 := broadcastInDim S1792x1794 ![] bcast_S_S1792x1794 main_cst_4
  let main_v16 : IVec S1792x1794 1 := cmpf .olt main_v14 main_v15
  fn_part1 (F := F) main_arg4 main_arg5 main_v13 main_v16
-- ==== Kernel.lean ====
abbrev S4x256x56x56 : Shape := ⟨4, ![4, 256, 56, 56]⟩
abbrev S4x512x28x28 : Shape := ⟨4, ![4, 512, 28, 28]⟩
abbrev S4x1024x14x14 : Shape := ⟨4, ![4, 1024, 14, 14]⟩
abbrev S1792x1794 : Shape := ⟨2, ![1792, 1794]⟩
abbrev S1792 : Shape := ⟨1, ![1792]⟩
abbrev S1792x3136 : Shape := ⟨2, ![1792, 3136]⟩
abbrev S_ : Shape := ⟨0, ![]⟩
abbrev S1 : Shape := ⟨1, ![1]⟩
abbrev S4x56x56x256 : Shape := ⟨4, ![4, 56, 56, 256]⟩
abbrev S4x3136x256 : Shape := ⟨3, ![4, 3136, 256]⟩
abbrev S4x28x28x512 : Shape := ⟨4, ![4, 28, 28, 512]⟩
abbrev S4x784x512 : Shape := ⟨3, ![4, 784, 512]⟩
abbrev S4x14x14x1024 : Shape := ⟨4, ![4, 14, 14, 1024]⟩
abbrev S4x196x1024 : Shape := ⟨3, ![4, 196, 1024]⟩
abbrev S4x224x1024 : Shape := ⟨3, ![4, 224, 1024]⟩
abbrev S56 : Shape := ⟨1, ![56]⟩
abbrev S56x1 : Shape := ⟨2, ![56, 1]⟩
abbrev S28 : Shape := ⟨1, ![28]⟩
abbrev S1x28 : Shape := ⟨2, ![1, 28]⟩
abbrev S56x28 : Shape := ⟨2, ![56, 28]⟩
abbrev S56x28x1 : Shape := ⟨3, ![56, 28, 1]⟩
abbrev S28x1 : Shape := ⟨2, ![28, 1]⟩
abbrev S28x28 : Shape := ⟨2, ![28, 28]⟩
abbrev S1x28x28 : Shape := ⟨3, ![1, 28, 28]⟩
abbrev S56x28x28 : Shape := ⟨3, ![56, 28, 28]⟩
abbrev S14 : Shape := ⟨1, ![14]⟩
abbrev S1x14 : Shape := ⟨2, ![1, 14]⟩
abbrev S56x14 : Shape := ⟨2, ![56, 14]⟩
abbrev S56x14x1 : Shape := ⟨3, ![56, 14, 1]⟩
abbrev S14x1 : Shape := ⟨2, ![14, 1]⟩
abbrev S14x14 : Shape := ⟨2, ![14, 14]⟩
abbrev S1x14x14 : Shape := ⟨3, ![1, 14, 14]⟩
abbrev S56x14x14 : Shape := ⟨3, ![56, 14, 14]⟩
abbrev S56x1x28x1 : Shape := ⟨4, ![56, 1, 28, 1]⟩
abbrev S1x56x1x28 : Shape := ⟨4, ![1, 56, 1, 28]⟩
abbrev S56x56x28x28 : Shape := ⟨4, ![56, 56, 28, 28]⟩
abbrev S3136x784 : Shape := ⟨2, ![3136, 784]⟩
abbrev S56x1x14x1 : Shape := ⟨4, ![56, 1, 14, 1]⟩
abbrev S1x56x1x14 : Shape := ⟨4, ![1, 56, 1, 14]⟩
abbrev S56x56x14x14 : Shape := ⟨4, ![56, 56, 14, 14]⟩
abbrev S3136x196 : Shape := ⟨2, ![3136, 196]⟩
abbrev S55 : Shape := ⟨1, ![55]⟩
abbrev S1x56 : Shape := ⟨2, ![1, 56]⟩
abbrev S56x56 : Shape := ⟨2, ![56, 56]⟩
abbrev S3136 : Shape := ⟨1, ![3136]⟩
abbrev S3136x1 : Shape := ⟨2, ![3136, 1]⟩
abbrev S3136x2 : Shape := ⟨2, ![3136, 2]⟩
abbrev S3136x224 : Shape := ⟨2, ![3136, 224]⟩
abbrev S3136x1008 : Shape := ⟨2, ![3136, 1008]⟩
abbrev S3136x16 : Shape := ⟨2, ![3136, 16]⟩
abbrev S3136x1024 : Shape := ⟨2, ![3136, 1024]⟩
abbrev S1794x1792 : Shape := ⟨2, ![1794, 1792]⟩
abbrev S256x1792 : Shape := ⟨2, ![256, 1792]⟩
abbrev S512x1792 : Shape := ⟨2, ![512, 1792]⟩
abbrev S1024x1792 : Shape := ⟨2, ![1024, 1792]⟩
abbrev S2x1792 : Shape := ⟨2, ![2, 1792]⟩
abbrev S1x1792 : Shape := ⟨2, ![1, 1792]⟩
abbrev S4x3136x1 : Shape := ⟨3, ![4, 3136, 1]⟩
abbrev S1x784x256 : Shape := ⟨3, ![1, 784, 256]⟩
abbrev S784x1024 : Shape := ⟨2, ![784, 1024]⟩
abbrev S1x784x512 : Shape := ⟨3, ![1, 784, 512]⟩
abbrev S1x224x1024 : Shape := ⟨3, ![1, 224, 1024]⟩
abbrev S1x784x1 : Shape := ⟨3, ![1, 784, 1]⟩
abbrev S1x3136 : Shape := ⟨2, ![1, 3136]⟩
abbrev S1280x1792 : Shape := ⟨2, ![1280, 1792]⟩
abbrev S1792x512 : Shape := ⟨2, ![1792, 512]⟩
abbrev S512 : Shape := ⟨1, ![512]⟩
abbrev S1x512 : Shape := ⟨2, ![1, 512]⟩
abbrev S1792x64 : Shape := ⟨2, ![1792, 64]⟩
abbrev S64 : Shape := ⟨1, ![64]⟩
abbrev S1x64 : Shape := ⟨2, ![1, 64]⟩
abbrev S14x1792 : Shape := ⟨2, ![14, 1792]⟩
abbrev S16x1792 : Shape := ⟨2, ![16, 1792]⟩
abbrev S784x512 : Shape := ⟨2, ![784, 512]⟩
abbrev S784x1792 : Shape := ⟨2, ![784, 1792]⟩
abbrev S224x1024 : Shape := ⟨2, ![224, 1024]⟩
abbrev S224x1792 : Shape := ⟨2, ![224, 1792]⟩
abbrev S784x256 : Shape := ⟨2, ![784, 256]⟩
abbrev S784x1280 : Shape := ⟨2, ![784, 1280]⟩
abbrev S784 : Shape := ⟨1, ![784]⟩
abbrev S784x1 : Shape := ⟨2, ![784, 1]⟩
abbrev S784x128 : Shape := ⟨2, ![784, 128]⟩
abbrev S784x64 : Shape := ⟨2, ![784, 64]⟩

abbrev nBuf : Space → Nat
  | .hbm => 189
  | .vmem => 18
  | .smem => 0
  | _ => 0

abbrev hbmTy0_0 (i : Nat) : BufTy := match i % 128 with
  | 0 => ⟨S4x256x56x56, .f32⟩
  | 1 => ⟨S4x512x28x28, .f32⟩
  | 2 => ⟨S4x1024x14x14, .f32⟩
  | 3 => ⟨S1792x1794, .f32⟩
  | 4 => ⟨S1792, .f32⟩
  | 5 => ⟨S1792x3136, .f32⟩
  | 6 => ⟨S_, .f32⟩
  | 7 => ⟨S1, .f32⟩
  | 8 => ⟨S_, .f32⟩
  | 9 => ⟨S4x56x56x256, .f32⟩
  | 10 => ⟨S_, .f32⟩
  | 11 => ⟨S_, .f32⟩
  | 12 => ⟨S4x56x56x256, .f32⟩
  | 13 => ⟨S_, .f32⟩
  | 14 => ⟨S4x56x56x256, .f32⟩
  | 15 => ⟨S4x56x56x256, .f32⟩
  | 16 => ⟨S4x3136x256, .f32⟩
  | 17 => ⟨S4x3136x256, .bf16⟩
  | 18 => ⟨S4x28x28x512, .f32⟩
  | 19 => ⟨S4x784x512, .f32⟩
  | 20 => ⟨S4x784x512, .bf16⟩
  | 21 => ⟨S4x14x14x1024, .f32⟩
  | 22 => ⟨S4x196x1024, .f32⟩
  | 23 => ⟨S_, .i32⟩
  | 24 => ⟨S_, .f32⟩
  | 25 => ⟨S4x224x1024, .f32⟩
  | 26 => ⟨S4x224x1024, .bf16⟩
  | 27 => ⟨S56, .f32⟩
  | 28 => ⟨S_, .f32⟩
  | 29 => ⟨S56, .f32⟩
  | 30 => ⟨S56, .f32⟩
  | 31 => ⟨S_, .f32⟩
  | 32 => ⟨S56, .f32⟩
  | 33 => ⟨S56, .f32⟩
  | 34 => ⟨S_, .f32⟩
  | 35 => ⟨S56, .f32⟩
  | 36 => ⟨S56, .f32⟩
  | 37 => ⟨S56x1, .f32⟩
  | 38 => ⟨S28, .f32⟩
  | 39 => ⟨S1x28, .f32⟩
  | 40 => ⟨S56x28, .f32⟩
  | 41 => ⟨S56x28, .f32⟩
  | 42 => ⟨S56x28, .f32⟩
  | 43 => ⟨S56x28, .f32⟩
  | 44 => ⟨S_, .f32⟩
  | 45 => ⟨S56x28, .f32⟩
  | 46 => ⟨S56x28, .f32⟩
  | 47 => ⟨S_, .f32⟩
  | 48 => ⟨S56x28, .f32⟩
  | 49 => ⟨S56x28, .f32⟩
  | 50 => ⟨S_, .f32⟩
  | 51 => ⟨S56, .f32⟩
  | 52 => ⟨S56x1, .f32⟩
  | 53 => ⟨S56x28, .f32⟩
  | 54 => ⟨S56x28, .f32⟩
  | 55 => ⟨S56x28x1, .f32⟩
  | 56 => ⟨S28, .i32⟩
  | 57 => ⟨S28x1, .i32⟩
  | 58 => ⟨S1x28, .i32⟩
  | 59 => ⟨S28x28, .i32⟩
  | 60 => ⟨S28x28, .i32⟩
  | 61 => ⟨S28x28, .i32⟩
  | 62 => ⟨S28x28, .i32⟩
  | 63 => ⟨S_, .i32⟩
  | 64 => ⟨S28x28, .i32⟩
  | 65 => ⟨S28x28, .i1⟩
  | 66 => ⟨S28x28, .f32⟩
  | 67 => ⟨S_, .f32⟩
  | 68 => ⟨S28x28, .f32⟩
  | 69 => ⟨S28x28, .f32⟩
  | 70 => ⟨S1x28x28, .f32⟩
  | 71 => ⟨S56x28x28, .f32⟩
  | 72 => ⟨S56x28x28, .f32⟩
  | 73 => ⟨S56x28x28, .f32⟩
  | 74 => ⟨S_, .f32⟩
  | 75 => ⟨S56x28, .f32⟩
  | 76 => ⟨S56, .f32⟩
  | 77 => ⟨S_, .f32⟩
  | 78 => ⟨S56, .f32⟩
  | 79 => ⟨S56, .f32⟩
  | 80 => ⟨S_, .f32⟩
  | 81 => ⟨S56, .f32⟩
  | 82 => ⟨S56, .f32⟩
  | 83 => ⟨S_, .f32⟩
  | 84 => ⟨S56, .f32⟩
  | 85 => ⟨S56, .f32⟩
  | 86 => ⟨S56x1, .f32⟩
  | 87 => ⟨S14, .f32⟩
  | 88 => ⟨S1x14, .f32⟩
  | 89 => ⟨S56x14, .f32⟩
  | 90 => ⟨S56x14, .f32⟩
  | 91 => ⟨S56x14, .f32⟩
  | 92 => ⟨S56x14, .f32⟩
  | 93 => ⟨S_, .f32⟩
  | 94 => ⟨S56x14, .f32⟩
  | 95 => ⟨S56x14, .f32⟩
  | 96 => ⟨S_, .f32⟩
  | 97 => ⟨S56x14, .f32⟩
  | 98 => ⟨S56x14, .f32⟩
  | 99 => ⟨S_, .f32⟩
  | 100 => ⟨S56, .f32⟩
  | 101 => ⟨S56x1, .f32⟩
  | 102 => ⟨S56x14, .f32⟩
  | 103 => ⟨S56x14, .f32⟩
  | 104 => ⟨S56x14x1, .f32⟩
  | 105 => ⟨S14, .i32⟩
  | 106 => ⟨S14x1, .i32⟩
  | 107 => ⟨S1x14, .i32⟩
  | 108 => ⟨S14x14, .i32⟩
  | 109 => ⟨S14x14, .i32⟩
  | 110 => ⟨S14x14, .i32⟩
  | 111 => ⟨S14x14, .i32⟩
  | 112 => ⟨S_, .i32⟩
  | 113 => ⟨S14x14, .i32⟩
  | 114 => ⟨S14x14, .i1⟩
  | 115 => ⟨S14x14, .f32⟩
  | 116 => ⟨S_, .f32⟩
  | 117 => ⟨S14x14, .f32⟩
  | 118 => ⟨S14x14, .f32⟩
  | 119 => ⟨S1x14x14, .f32⟩
  | 120 => ⟨S56x14x14, .f32⟩
  | 121 => ⟨S56x14x14, .f32⟩
  | 122 => ⟨S56x14x14, .f32⟩
  | 123 => ⟨S_, .f32⟩
  | 124 => ⟨S56x14, .f32⟩
  | 125 => ⟨S56x1x28x1, .f32⟩
  | 126 => ⟨S1x56x1x28, .f32⟩
  | 127 => ⟨S56x56x28x28, .f32⟩
  | _ => ⟨S4x256x56x56, .f32⟩

abbrev hbmTy0_1 (i : Nat) : BufTy := match i % 128 with
  | 0 => ⟨S56x56x28x28, .f32⟩
  | 1 => ⟨S56x56x28x28, .f32⟩
  | 2 => ⟨S3136x784, .f32⟩
  | 3 => ⟨S56x1x14x1, .f32⟩
  | 4 => ⟨S1x56x1x14, .f32⟩
  | 5 => ⟨S56x56x14x14, .f32⟩
  | 6 => ⟨S56x56x14x14, .f32⟩
  | 7 => ⟨S56x56x14x14, .f32⟩
  | 8 => ⟨S3136x196, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S55, .f32⟩
  | 17 => ⟨S_, .f32⟩
  | 18 => ⟨S55, .f32⟩
  | 19 => ⟨S55, .f32⟩
  | 20 => ⟨S1, .f32⟩
  | 21 => ⟨S_, .f32⟩
  | 22 => ⟨S55, .f32⟩
  | 23 => ⟨S55, .f32⟩
  | 24 => ⟨S55, .f32⟩
  | 25 => ⟨S55, .f32⟩
  | 26 => ⟨S1, .f32⟩
  | 27 => ⟨S55, .f32⟩
  | 28 => ⟨S55, .f32⟩
  | 29 => ⟨S55, .f32⟩
  | 30 => ⟨S1, .f32⟩
  | 31 => ⟨S56, .f32⟩
  | 32 => ⟨S1x56, .f32⟩
  | 33 => ⟨S56x56, .f32⟩
  | 34 => ⟨S3136, .f32⟩
  | 35 => ⟨S56x56, .f32⟩
  | 36 => ⟨S3136, .f32⟩
  | 37 => ⟨S3136x1, .f32⟩
  | 38 => ⟨S3136x1, .f32⟩
  | 39 => ⟨S3136x2, .f32⟩
  | 40 => ⟨S_, .i32⟩
  | 41 => ⟨S_, .f32⟩
  | 42 => ⟨S3136x224, .f32⟩
  | 43 => ⟨S3136x1008, .f32⟩
  | 44 => ⟨S_, .i32⟩
  | 45 => ⟨S_, .f32⟩
  | 46 => ⟨S3136x16, .f32⟩
  | 47 => ⟨S3136x1024, .f32⟩
  | 48 => ⟨S3136x1024, .bf16⟩
  | 49 => ⟨S1794x1792, .f32⟩
  | 50 => ⟨S256x1792, .f32⟩
  | 51 => ⟨S256x1792, .bf16⟩
  | 52 => ⟨S512x1792, .f32⟩
  | 53 => ⟨S512x1792, .bf16⟩
  | 54 => ⟨S1024x1792, .f32⟩
  | 55 => ⟨S1024x1792, .bf16⟩
  | 56 => ⟨S2x1792, .f32⟩
  | 57 => ⟨S2x1792, .bf16⟩
  | 58 => ⟨S1x1792, .f32⟩
  | 59 => ⟨S1792x3136, .bf16⟩
  | 60 => ⟨S4x3136x1, .f32⟩
  | _ => ⟨S4x256x56x56, .f32⟩

abbrev hbmTy (i : Nat) : BufTy := match i / 128 with
  | 0 => hbmTy0_0 i
  | 1 => hbmTy0_1 i
  | _ => ⟨S4x256x56x56, .f32⟩

abbrev bufTy : (tb : Table) → Fin (tcTables nBuf tb) → BufTy
  | .hbm, ⟨i, _⟩ => hbmTy i
  | .local _ .vmem, ⟨0, _⟩ => ⟨S1x784x256, .bf16⟩
  | .local _ .vmem, ⟨1, _⟩ => ⟨S1x784x256, .bf16⟩
  | .local _ .vmem, ⟨2, _⟩ => ⟨S784x1024, .bf16⟩
  | .local _ .vmem, ⟨3, _⟩ => ⟨S784x1024, .bf16⟩
  | .local _ .vmem, ⟨4, _⟩ => ⟨S1x784x512, .bf16⟩
  | .local _ .vmem, ⟨5, _⟩ => ⟨S1x784x512, .bf16⟩
  | .local _ .vmem, ⟨6, _⟩ => ⟨S1x224x1024, .bf16⟩
  | .local _ .vmem, ⟨7, _⟩ => ⟨S1x224x1024, .bf16⟩
  | .local _ .vmem, ⟨8, _⟩ => ⟨S256x1792, .bf16⟩
  | .local _ .vmem, ⟨9, _⟩ => ⟨S512x1792, .bf16⟩
  | .local _ .vmem, ⟨10, _⟩ => ⟨S1024x1792, .bf16⟩
  | .local _ .vmem, ⟨11, _⟩ => ⟨S2x1792, .bf16⟩
  | .local _ .vmem, ⟨12, _⟩ => ⟨S1x1792, .f32⟩
  | .local _ .vmem, ⟨13, _⟩ => ⟨S1792x3136, .bf16⟩
  | .local _ .vmem, ⟨14, _⟩ => ⟨S1x784x1, .f32⟩
  | .local _ .vmem, ⟨15, _⟩ => ⟨S1x784x1, .f32⟩
  | .local _ .vmem, ⟨16, _⟩ => ⟨S1x3136, .f32⟩
  | .local _ .vmem, ⟨17, _⟩ => ⟨S1280x1792, .bf16⟩
  | _, _ => ⟨S4x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0_0 : Ref sig .tc := ⟨.hbm, 8, rfl⟩
abbrev main_call0_v2 : Ref sig .tc := ⟨.hbm, 9, rfl⟩
abbrev main_call0_cst_0 : Ref sig .tc := ⟨.hbm, 10, rfl⟩
abbrev main_call0_v3 : Ref sig .tc := ⟨.hbm, 11, rfl⟩
abbrev main_call0_v4 : Ref sig .tc := ⟨.hbm, 12, rfl⟩
abbrev main_call0_cst_1 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_c : Ref sig .tc := ⟨.hbm, 23, rfl⟩
abbrev main_call0_call0_v0 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_cst_2 : Ref sig .tc := ⟨.hbm, 28, rfl⟩
abbrev main_call0_v17 : Ref sig .tc := ⟨.hbm, 29, rfl⟩
abbrev main_call0_v18 : Ref sig .tc := ⟨.hbm, 30, rfl⟩
abbrev main_call0_cst_3 : Ref sig .tc := ⟨.hbm, 31, rfl⟩
abbrev main_call0_v19 : Ref sig .tc := ⟨.hbm, 32, rfl⟩
abbrev main_call0_v20 : Ref sig .tc := ⟨.hbm, 33, rfl⟩
abbrev main_call0_cst_4 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_cst_5 : Ref sig .tc := ⟨.hbm, 44, rfl⟩
abbrev main_call0_v30 : Ref sig .tc := ⟨.hbm, 45, rfl⟩
abbrev main_call0_v31 : Ref sig .tc := ⟨.hbm, 46, rfl⟩
abbrev main_call0_cst_6 : Ref sig .tc := ⟨.hbm, 47, rfl⟩
abbrev main_call0_v32 : Ref sig .tc := ⟨.hbm, 48, rfl⟩
abbrev main_call0_v33 : Ref sig .tc := ⟨.hbm, 49, rfl⟩
abbrev main_call0_cst_7 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_call0_v42 : Ref sig .tc := ⟨.hbm, 59, rfl⟩
abbrev main_call0_v43 : Ref sig .tc := ⟨.hbm, 60, rfl⟩
abbrev main_call0_v44 : Ref sig .tc := ⟨.hbm, 61, rfl⟩
abbrev main_call0_v45 : Ref sig .tc := ⟨.hbm, 62, rfl⟩
abbrev main_call0_c_8 : Ref sig .tc := ⟨.hbm, 63, rfl⟩
abbrev main_call0_v46 : Ref sig .tc := ⟨.hbm, 64, rfl⟩
abbrev main_call0_v47 : Ref sig .tc := ⟨.hbm, 65, rfl⟩
abbrev main_call0_v48 : Ref sig .tc := ⟨.hbm, 66, rfl⟩
abbrev main_call0_cst_9 : Ref sig .tc := ⟨.hbm, 67, rfl⟩
abbrev main_call0_v49 : Ref sig .tc := ⟨.hbm, 68, rfl⟩
abbrev main_call0_v50 : Ref sig .tc := ⟨.hbm, 69, rfl⟩
abbrev main_call0_v51 : Ref sig .tc := ⟨.hbm, 70, rfl⟩
abbrev main_call0_v52 : Ref sig .tc := ⟨.hbm, 71, rfl⟩
abbrev main_call0_v53 : Ref sig .tc := ⟨.hbm, 72, rfl⟩
abbrev main_call0_v54 : Ref sig .tc := ⟨.hbm, 73, rfl⟩
abbrev main_call0_cst_10 : Ref sig .tc := ⟨.hbm, 74, rfl⟩
abbrev main_call0_v55 : Ref sig .tc := ⟨.hbm, 75, rfl⟩
abbrev main_call0_v56 : Ref sig .tc := ⟨.hbm, 76, rfl⟩
abbrev main_call0_cst_11 : Ref sig .tc := ⟨.hbm, 77, rfl⟩
abbrev main_call0_v57 : Ref sig .tc := ⟨.hbm, 78, rfl⟩
abbrev main_call0_v58 : Ref sig .tc := ⟨.hbm, 79, rfl⟩
abbrev main_call0_cst_12 : Ref sig .tc := ⟨.hbm, 80, rfl⟩
abbrev main_call0_v59 : Ref sig .tc := ⟨.hbm, 81, rfl⟩
abbrev main_call0_v60 : Ref sig .tc := ⟨.hbm, 82, rfl⟩
abbrev main_call0_cst_13 : Ref sig .tc := ⟨.hbm, 83, rfl⟩
abbrev main_call0_v61 : Ref sig .tc := ⟨.hbm, 84, rfl⟩
abbrev main_call0_v62 : Ref sig .tc := ⟨.hbm, 85, rfl⟩
abbrev main_call0_v63 : Ref sig .tc := ⟨.hbm, 86, rfl⟩
abbrev main_call0_v64 : Ref sig .tc := ⟨.hbm, 87, rfl⟩
abbrev main_call0_v65 : Ref sig .tc := ⟨.hbm, 88, rfl⟩
abbrev main_call0_v66 : Ref sig .tc := ⟨.hbm, 89, rfl⟩
abbrev main_call0_v67 : Ref sig .tc := ⟨.hbm, 90, rfl⟩
abbrev main_call0_v68 : Ref sig .tc := ⟨.hbm, 91, rfl⟩
abbrev main_call0_v69 : Ref sig .tc := ⟨.hbm, 92, rfl⟩
abbrev main_call0_cst_14 : Ref sig .tc := ⟨.hbm, 93, rfl⟩
abbrev main_call0_v70 : Ref sig .tc := ⟨.hbm, 94, rfl⟩
abbrev main_call0_v71 : Ref sig .tc := ⟨.hbm, 95, rfl⟩
abbrev main_call0_cst_15 : Ref sig .tc := ⟨.hbm, 96, rfl⟩
abbrev main_call0_v72 : Ref sig .tc := ⟨.hbm, 97, rfl⟩
abbrev main_call0_v73 : Ref sig .tc := ⟨.hbm, 98, rfl⟩
abbrev main_call0_cst_16 : Ref sig .tc := ⟨.hbm, 99, rfl⟩
abbrev main_call0_v74 : Ref sig .tc := ⟨.hbm, 100, rfl⟩
abbrev main_call0_v75 : Ref sig .tc := ⟨.hbm, 101, rfl⟩
abbrev main_call0_v76 : Ref sig .tc := ⟨.hbm, 102, rfl⟩
abbrev main_call0_v77 : Ref sig .tc := ⟨.hbm, 103, rfl⟩
abbrev main_call0_v78 : Ref sig .tc := ⟨.hbm, 104, rfl⟩
abbrev main_call0_v79 : Ref sig .tc := ⟨.hbm, 105, rfl⟩
abbrev main_call0_v80 : Ref sig .tc := ⟨.hbm, 106, rfl⟩
abbrev main_call0_v81 : Ref sig .tc := ⟨.hbm, 107, rfl⟩
abbrev main_call0_v82 : Ref sig .tc := ⟨.hbm, 108, rfl⟩
abbrev main_call0_v83 : Ref sig .tc := ⟨.hbm, 109, rfl⟩
abbrev main_call0_v84 : Ref sig .tc := ⟨.hbm, 110, rfl⟩
abbrev main_call0_v85 : Ref sig .tc := ⟨.hbm, 111, rfl⟩
abbrev main_call0_c_17 : Ref sig .tc := ⟨.hbm, 112, rfl⟩
abbrev main_call0_v86 : Ref sig .tc := ⟨.hbm, 113, rfl⟩
abbrev main_call0_v87 : Ref sig .tc := ⟨.hbm, 114, rfl⟩
abbrev main_call0_v88 : Ref sig .tc := ⟨.hbm, 115, rfl⟩
abbrev main_call0_cst_18 : Ref sig .tc := ⟨.hbm, 116, rfl⟩
abbrev main_call0_v89 : Ref sig .tc := ⟨.hbm, 117, rfl⟩
abbrev main_call0_v90 : Ref sig .tc := ⟨.hbm, 118, rfl⟩
abbrev main_call0_v91 : Ref sig .tc := ⟨.hbm, 119, rfl⟩
abbrev main_call0_v92 : Ref sig .tc := ⟨.hbm, 120, rfl⟩
abbrev main_call0_v93 : Ref sig .tc := ⟨.hbm, 121, rfl⟩
abbrev main_call0_v94 : Ref sig .tc := ⟨.hbm, 122, rfl⟩
abbrev main_call0_cst_19 : Ref sig .tc := ⟨.hbm, 123, rfl⟩
abbrev main_call0_v95 : Ref sig .tc := ⟨.hbm, 124, rfl⟩
abbrev main_call0_call1_v0 : Ref sig .tc := ⟨.hbm, 125, rfl⟩
abbrev main_call0_call1_v1 : Ref sig .tc := ⟨.hbm, 126, rfl⟩
abbrev main_call0_call1_v2 : Ref sig .tc := ⟨.hbm, 127, rfl⟩
abbrev main_call0_call1_v3 : Ref sig .tc := ⟨.hbm, 128, rfl⟩
abbrev main_call0_call1_v4 : Ref sig .tc := ⟨.hbm, 129, rfl⟩
abbrev main_call0_v96 : Ref sig .tc := ⟨.hbm, 130, rfl⟩
abbrev main_call0_call2_v0 : Ref sig .tc := ⟨.hbm, 131, rfl⟩
abbrev main_call0_call2_v1 : Ref sig .tc := ⟨.hbm, 132, rfl⟩
abbrev main_call0_call2_v2 : Ref sig .tc := ⟨.hbm, 133, rfl⟩
abbrev main_call0_call2_v3 : Ref sig .tc := ⟨.hbm, 134, rfl⟩
abbrev main_call0_call2_v4 : Ref sig .tc := ⟨.hbm, 135, rfl⟩
abbrev main_call0_v97 : Ref sig .tc := ⟨.hbm, 136, rfl⟩
abbrev main_call0_cst_20 : Ref sig .tc := ⟨.hbm, 137, rfl⟩
abbrev main_call0_cst_21 : Ref sig .tc := ⟨.hbm, 138, rfl⟩
abbrev main_call0_call3_v0 : Ref sig .tc := ⟨.hbm, 139, rfl⟩
abbrev main_call0_call3_v1 : Ref sig .tc := ⟨.hbm, 140, rfl⟩
abbrev main_call0_call3_v2 : Ref sig .tc := ⟨.hbm, 141, rfl⟩
abbrev main_call0_call3_cst : Ref sig .tc := ⟨.hbm, 142, rfl⟩
abbrev main_call0_call3_v3 : Ref sig .tc := ⟨.hbm, 143, rfl⟩
abbrev main_call0_call3_v4 : Ref sig .tc := ⟨.hbm, 144, rfl⟩
abbrev main_call0_call3_cst_0 : Ref sig .tc := ⟨.hbm, 145, rfl⟩
abbrev main_call0_call3_v5 : Ref sig .tc := ⟨.hbm, 146, rfl⟩
abbrev main_call0_call3_v6 : Ref sig .tc := ⟨.hbm, 147, rfl⟩
abbrev main_call0_call3_v7 : Ref sig .tc := ⟨.hbm, 148, rfl⟩
abbrev main_call0_call3_cst_1 : Ref sig .tc := ⟨.hbm, 149, rfl⟩
abbrev main_call0_call3_v8 : Ref sig .tc := ⟨.hbm, 150, rfl⟩
abbrev main_call0_call3_v9 : Ref sig .tc := ⟨.hbm, 151, rfl⟩
abbrev main_call0_call3_v10 : Ref sig .tc := ⟨.hbm, 152, rfl⟩
abbrev main_call0_call3_v11 : Ref sig .tc := ⟨.hbm, 153, rfl⟩
abbrev main_call0_call3_v12 : Ref sig .tc := ⟨.hbm, 154, rfl⟩
abbrev main_call0_call3_v13 : Ref sig .tc := ⟨.hbm, 155, rfl⟩
abbrev main_call0_call3_v14 : Ref sig .tc := ⟨.hbm, 156, rfl⟩
abbrev main_call0_call3_v15 : Ref sig .tc := ⟨.hbm, 157, rfl⟩
abbrev main_call0_call3_v16 : Ref sig .tc := ⟨.hbm, 158, rfl⟩
abbrev main_call0_v98 : Ref sig .tc := ⟨.hbm, 159, rfl⟩
abbrev main_call0_v99 : Ref sig .tc := ⟨.hbm, 160, rfl⟩
abbrev main_call0_v100 : Ref sig .tc := ⟨.hbm, 161, rfl⟩
abbrev main_call0_v101 : Ref sig .tc := ⟨.hbm, 162, rfl⟩
abbrev main_call0_v102 : Ref sig .tc := ⟨.hbm, 163, rfl⟩
abbrev main_call0_v103 : Ref sig .tc := ⟨.hbm, 164, rfl⟩
abbrev main_call0_v104 : Ref sig .tc := ⟨.hbm, 165, rfl⟩
abbrev main_call0_v105 : Ref sig .tc := ⟨.hbm, 166, rfl⟩
abbrev main_call0_v106 : Ref sig .tc := ⟨.hbm, 167, rfl⟩
abbrev main_call0_c_22 : Ref sig .tc := ⟨.hbm, 168, rfl⟩
abbrev main_call0_call4_v0 : Ref sig .tc := ⟨.hbm, 169, rfl⟩
abbrev main_call0_v107 : Ref sig .tc := ⟨.hbm, 170, rfl⟩
abbrev main_call0_v108 : Ref sig .tc := ⟨.hbm, 171, rfl⟩
abbrev main_call0_c_23 : Ref sig .tc := ⟨.hbm, 172, rfl⟩
abbrev main_call0_call5_v0 : Ref sig .tc := ⟨.hbm, 173, rfl⟩
abbrev main_call0_v109 : Ref sig .tc := ⟨.hbm, 174, rfl⟩
abbrev main_call0_v110 : Ref sig .tc := ⟨.hbm, 175, rfl⟩
abbrev main_call0_v111 : Ref sig .tc := ⟨.hbm, 176, rfl⟩
abbrev main_call0_v112 : Ref sig .tc := ⟨.hbm, 177, rfl⟩
abbrev main_call0_v113 : Ref sig .tc := ⟨.hbm, 178, rfl⟩
abbrev main_call0_v114 : Ref sig .tc := ⟨.hbm, 179, rfl⟩
abbrev main_call0_v115 : Ref sig .tc := ⟨.hbm, 180, rfl⟩
abbrev main_call0_v116 : Ref sig .tc := ⟨.hbm, 181, rfl⟩
abbrev main_call0_v117 : Ref sig .tc := ⟨.hbm, 182, rfl⟩
abbrev main_call0_v118 : Ref sig .tc := ⟨.hbm, 183, rfl⟩
abbrev main_call0_v119 : Ref sig .tc := ⟨.hbm, 184, rfl⟩
abbrev main_call0_v120 : Ref sig .tc := ⟨.hbm, 185, rfl⟩
abbrev main_call0_v121 : Ref sig .tc := ⟨.hbm, 186, rfl⟩
abbrev main_call0_v122 : Ref sig .tc := ⟨.hbm, 187, rfl⟩
abbrev main_v0_1 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x784x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S784x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x784x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x224x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1792 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1792x3136 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x784x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "big" => some ⊤
  | _ => none
-- ==== ReferenceIdeal.lean ====
abbrev S4x256x56x56 : Shape := ⟨4, ![4, 256, 56, 56]⟩
abbrev S4x512x28x28 : Shape := ⟨4, ![4, 512, 28, 28]⟩
abbrev S4x1024x14x14 : Shape := ⟨4, ![4, 1024, 14, 14]⟩
abbrev S1792x1794 : Shape := ⟨2, ![1792, 1794]⟩
abbrev S1792 : Shape := ⟨1, ![1792]⟩
abbrev S1792x3136 : Shape := ⟨2, ![1792, 3136]⟩
abbrev S_ : Shape := ⟨0, ![]⟩
abbrev S56 : Shape := ⟨1, ![56]⟩
abbrev S28 : Shape := ⟨1, ![28]⟩
abbrev S1x56 : Shape := ⟨2, ![1, 56]⟩
abbrev S28x1 : Shape := ⟨2, ![28, 1]⟩
abbrev S28x56 : Shape := ⟨2, ![28, 56]⟩
abbrev S56x4x512x28 : Shape := ⟨4, ![56, 4, 512, 28]⟩
abbrev S4x512x56x28 : Shape := ⟨4, ![4, 512, 56, 28]⟩
abbrev S4x512x56x56 : Shape := ⟨4, ![4, 512, 56, 56]⟩
abbrev S4x768x56x56 : Shape := ⟨4, ![4, 768, 56, 56]⟩
abbrev S14 : Shape := ⟨1, ![14]⟩
abbrev S14x1 : Shape := ⟨2, ![14, 1]⟩
abbrev S14x56 : Shape := ⟨2, ![14, 56]⟩
abbrev S56x4x1024x14 : Shape := ⟨4, ![56, 4, 1024, 14]⟩
abbrev S4x1024x56x14 : Shape := ⟨4, ![4, 1024, 56, 14]⟩
abbrev S4x1024x56x56 : Shape := ⟨4, ![4, 1024, 56, 56]⟩
abbrev S4x1792x56x56 : Shape := ⟨4, ![4, 1792, 56, 56]⟩
abbrev S55 : Shape := ⟨1, ![55]⟩
abbrev S1 : Shape := ⟨1, ![1]⟩
abbrev S1x1x1x56 : Shape := ⟨4, ![1, 1, 1, 56]⟩
abbrev S4x1x56x56 : Shape := ⟨4, ![4, 1, 56, 56]⟩
abbrev S1x1x56x1 : Shape := ⟨4, ![1, 1, 56, 1]⟩
abbrev S4x1794x56x56 : Shape := ⟨4, ![4, 1794, 56, 56]⟩
abbrev S1792x4x56x56 : Shape := ⟨4, ![1792, 4, 56, 56]⟩
abbrev S1x1792x1x1 : Shape := ⟨4, ![1, 1792, 1, 1]⟩
abbrev S4x1792x3136 : Shape := ⟨3, ![4, 1792, 3136]⟩
abbrev S4x3136x1792 : Shape := ⟨3, ![4, 3136, 1792]⟩
abbrev S4x3136 : Shape := ⟨2, ![4, 3136]⟩
abbrev S4x3136x1 : Shape := ⟨3, ![4, 3136, 1]⟩
abbrev S3136 : Shape := ⟨1, ![3136]⟩
abbrev S1x3136 : Shape := ⟨2, ![1, 3136]⟩
abbrev S4x3136x3136 : Shape := ⟨3, ![4, 3136, 3136]⟩
abbrev S1x1x3136 : Shape := ⟨3, ![1, 1, 3136]⟩
abbrev S4x3136x3 : Shape := ⟨3, ![4, 3136, 3]⟩

abbrev nBuf : Space → Nat
  | .hbm => 393
  | .vmem => 0
  | .smem => 0
  | _ => 0

abbrev hbmTy0_0 (i : Nat) : BufTy := match i % 128 with
  | 0 => ⟨S4x256x56x56, .f32⟩
  | 1 => ⟨S4x512x28x28, .f32⟩
  | 2 => ⟨S4x1024x14x14, .f32⟩
  | 3 => ⟨S1792x1794, .f32⟩
  | 4 => ⟨S1792, .f32⟩
  | 5 => ⟨S1792x3136, .f32⟩
  | 6 => ⟨S_, .f32⟩
  | 7 => ⟨S_, .f32⟩
  | 8 => ⟨S4x256x56x56, .f32⟩
  | 9 => ⟨S_, .f32⟩
  | 10 => ⟨S4x256x56x56, .f32⟩
  | 11 => ⟨S4x256x56x56, .f32⟩
  | 12 => ⟨S_, .f32⟩
  | 13 => ⟨S_, .f32⟩
  | 14 => ⟨S4x512x28x28, .f32⟩
  | 15 => ⟨S_, .f32⟩
  | 16 => ⟨S4x512x28x28, .f32⟩
  | 17 => ⟨S4x512x28x28, .f32⟩
  | 18 => ⟨S56, .f32⟩
  | 19 => ⟨S_, .f32⟩
  | 20 => ⟨S56, .f32⟩
  | 21 => ⟨S56, .f32⟩
  | 22 => ⟨S_, .f32⟩
  | 23 => ⟨S56, .f32⟩
  | 24 => ⟨S56, .f32⟩
  | 25 => ⟨S_, .f32⟩
  | 26 => ⟨S56, .f32⟩
  | 27 => ⟨S56, .f32⟩
  | 28 => ⟨S_, .f32⟩
  | 29 => ⟨S56, .f32⟩
  | 30 => ⟨S56, .f32⟩
  | 31 => ⟨S28, .f32⟩
  | 32 => ⟨S1x56, .f32⟩
  | 33 => ⟨S28x1, .f32⟩
  | 34 => ⟨S28x56, .f32⟩
  | 35 => ⟨S28x56, .f32⟩
  | 36 => ⟨S28x56, .f32⟩
  | 37 => ⟨S28x56, .f32⟩
  | 38 => ⟨S_, .f32⟩
  | 39 => ⟨S28x56, .f32⟩
  | 40 => ⟨S28x56, .f32⟩
  | 41 => ⟨S28x56, .f32⟩
  | 42 => ⟨S_, .f32⟩
  | 43 => ⟨S28x56, .f32⟩
  | 44 => ⟨S28x56, .f32⟩
  | 45 => ⟨S_, .f32⟩
  | 46 => ⟨S28x56, .f32⟩
  | 47 => ⟨S28x56, .f32⟩
  | 48 => ⟨S_, .f32⟩
  | 49 => ⟨S56, .f32⟩
  | 50 => ⟨S1x56, .f32⟩
  | 51 => ⟨S1x56, .f32⟩
  | 52 => ⟨S_, .f32⟩
  | 53 => ⟨S1x56, .f32⟩
  | 54 => ⟨S1x56, .i1⟩
  | 55 => ⟨S_, .f32⟩
  | 56 => ⟨S1x56, .f32⟩
  | 57 => ⟨S1x56, .i1⟩
  | 58 => ⟨S_, .i32⟩
  | 59 => ⟨S_, .f32⟩
  | 60 => ⟨S1x56, .f32⟩
  | 61 => ⟨S1x56, .f32⟩
  | 62 => ⟨S28x56, .f32⟩
  | 63 => ⟨S28x56, .f32⟩
  | 64 => ⟨S_, .i32⟩
  | 65 => ⟨S_, .f32⟩
  | 66 => ⟨S28x56, .i1⟩
  | 67 => ⟨S28x56, .f32⟩
  | 68 => ⟨S28x56, .f32⟩
  | 69 => ⟨S_, .f32⟩
  | 70 => ⟨S56, .f32⟩
  | 71 => ⟨S56, .i1⟩
  | 72 => ⟨S_, .f32⟩
  | 73 => ⟨S56, .f32⟩
  | 74 => ⟨S56, .i1⟩
  | 75 => ⟨S56, .i1⟩
  | 76 => ⟨S1x56, .i1⟩
  | 77 => ⟨S_, .i32⟩
  | 78 => ⟨S_, .f32⟩
  | 79 => ⟨S28x56, .i1⟩
  | 80 => ⟨S28x56, .f32⟩
  | 81 => ⟨S28x56, .f32⟩
  | 82 => ⟨S56x4x512x28, .f32⟩
  | 83 => ⟨S4x512x56x28, .f32⟩
  | 84 => ⟨S56, .f32⟩
  | 85 => ⟨S_, .f32⟩
  | 86 => ⟨S56, .f32⟩
  | 87 => ⟨S56, .f32⟩
  | 88 => ⟨S_, .f32⟩
  | 89 => ⟨S56, .f32⟩
  | 90 => ⟨S56, .f32⟩
  | 91 => ⟨S_, .f32⟩
  | 92 => ⟨S56, .f32⟩
  | 93 => ⟨S56, .f32⟩
  | 94 => ⟨S_, .f32⟩
  | 95 => ⟨S56, .f32⟩
  | 96 => ⟨S56, .f32⟩
  | 97 => ⟨S28, .f32⟩
  | 98 => ⟨S1x56, .f32⟩
  | 99 => ⟨S28x1, .f32⟩
  | 100 => ⟨S28x56, .f32⟩
  | 101 => ⟨S28x56, .f32⟩
  | 102 => ⟨S28x56, .f32⟩
  | 103 => ⟨S28x56, .f32⟩
  | 104 => ⟨S_, .f32⟩
  | 105 => ⟨S28x56, .f32⟩
  | 106 => ⟨S28x56, .f32⟩
  | 107 => ⟨S28x56, .f32⟩
  | 108 => ⟨S_, .f32⟩
  | 109 => ⟨S28x56, .f32⟩
  | 110 => ⟨S28x56, .f32⟩
  | 111 => ⟨S_, .f32⟩
  | 112 => ⟨S28x56, .f32⟩
  | 113 => ⟨S28x56, .f32⟩
  | 114 => ⟨S_, .f32⟩
  | 115 => ⟨S56, .f32⟩
  | 116 => ⟨S1x56, .f32⟩
  | 117 => ⟨S1x56, .f32⟩
  | 118 => ⟨S_, .f32⟩
  | 119 => ⟨S1x56, .f32⟩
  | 120 => ⟨S1x56, .i1⟩
  | 121 => ⟨S_, .f32⟩
  | 122 => ⟨S1x56, .f32⟩
  | 123 => ⟨S1x56, .i1⟩
  | 124 => ⟨S_, .i32⟩
  | 125 => ⟨S_, .f32⟩
  | 126 => ⟨S1x56, .f32⟩
  | 127 => ⟨S1x56, .f32⟩
  | _ => ⟨S4x256x56x56, .f32⟩

abbrev hbmTy0_1 (i : Nat) : BufTy := match i % 128 with
  | 0 => ⟨S28x56, .f32⟩
  | 1 => ⟨S28x56, .f32⟩
  | 2 => ⟨S_, .i32⟩
  | 3 => ⟨S_, .f32⟩
  | 4 => ⟨S28x56, .i1⟩
  | 5 => ⟨S28x56, .f32⟩
  | 6 => ⟨S28x56, .f32⟩
  | 7 => ⟨S_, .f32⟩
  | 8 => ⟨S56, .f32⟩
  | 9 => ⟨S56, .i1⟩
  | 10 => ⟨S_, .f32⟩
  | 11 => ⟨S56, .f32⟩
  | 12 => ⟨S56, .i1⟩
  | 13 => ⟨S56, .i1⟩
  | 14 => ⟨S1x56, .i1⟩
  | 15 => ⟨S_, .i32⟩
  | 16 => ⟨S_, .f32⟩
  | 17 => ⟨S28x56, .i1⟩
  | 18 => ⟨S28x56, .f32⟩
  | 19 => ⟨S28x56, .f32⟩
  | 20 => ⟨S4x512x56x56, .f32⟩
  | 21 => ⟨S4x768x56x56, .f32⟩
  | 22 => ⟨S_, .f32⟩
  | 23 => ⟨S_, .f32⟩
  | 24 => ⟨S4x1024x14x14, .f32⟩
  | 25 => ⟨S_, .f32⟩
  | 26 => ⟨S4x1024x14x14, .f32⟩
  | 27 => ⟨S4x1024x14x14, .f32⟩
  | 28 => ⟨S56, .f32⟩
  | 29 => ⟨S_, .f32⟩
  | 30 => ⟨S56, .f32⟩
  | 31 => ⟨S56, .f32⟩
  | 32 => ⟨S_, .f32⟩
  | 33 => ⟨S56, .f32⟩
  | 34 => ⟨S56, .f32⟩
  | 35 => ⟨S_, .f32⟩
  | 36 => ⟨S56, .f32⟩
  | 37 => ⟨S56, .f32⟩
  | 38 => ⟨S_, .f32⟩
  | 39 => ⟨S56, .f32⟩
  | 40 => ⟨S56, .f32⟩
  | 41 => ⟨S14, .f32⟩
  | 42 => ⟨S1x56, .f32⟩
  | 43 => ⟨S14x1, .f32⟩
  | 44 => ⟨S14x56, .f32⟩
  | 45 => ⟨S14x56, .f32⟩
  | 46 => ⟨S14x56, .f32⟩
  | 47 => ⟨S14x56, .f32⟩
  | 48 => ⟨S_, .f32⟩
  | 49 => ⟨S14x56, .f32⟩
  | 50 => ⟨S14x56, .f32⟩
  | 51 => ⟨S14x56, .f32⟩
  | 52 => ⟨S_, .f32⟩
  | 53 => ⟨S14x56, .f32⟩
  | 54 => ⟨S14x56, .f32⟩
  | 55 => ⟨S_, .f32⟩
  | 56 => ⟨S14x56, .f32⟩
  | 57 => ⟨S14x56, .f32⟩
  | 58 => ⟨S_, .f32⟩
  | 59 => ⟨S56, .f32⟩
  | 60 => ⟨S1x56, .f32⟩
  | 61 => ⟨S1x56, .f32⟩
  | 62 => ⟨S_, .f32⟩
  | 63 => ⟨S1x56, .f32⟩
  | 64 => ⟨S1x56, .i1⟩
  | 65 => ⟨S_, .f32⟩
  | 66 => ⟨S1x56, .f32⟩
  | 67 => ⟨S1x56, .i1⟩
  | 68 => ⟨S_, .i32⟩
  | 69 => ⟨S_, .f32⟩
  | 70 => ⟨S1x56, .f32⟩
  | 71 => ⟨S1x56, .f32⟩
  | 72 => ⟨S14x56, .f32⟩
  | 73 => ⟨S14x56, .f32⟩
  | 74 => ⟨S_, .i32⟩
  | 75 => ⟨S_, .f32⟩
  | 76 => ⟨S14x56, .i1⟩
  | 77 => ⟨S14x56, .f32⟩
  | 78 => ⟨S14x56, .f32⟩
  | 79 => ⟨S_, .f32⟩
  | 80 => ⟨S56, .f32⟩
  | 81 => ⟨S56, .i1⟩
  | 82 => ⟨S_, .f32⟩
  | 83 => ⟨S56, .f32⟩
  | 84 => ⟨S56, .i1⟩
  | 85 => ⟨S56, .i1⟩
  | 86 => ⟨S1x56, .i1⟩
  | 87 => ⟨S_, .i32⟩
  | 88 => ⟨S_, .f32⟩
  | 89 => ⟨S14x56, .i1⟩
  | 90 => ⟨S14x56, .f32⟩
  | 91 => ⟨S14x56, .f32⟩
  | 92 => ⟨S56x4x1024x14, .f32⟩
  | 93 => ⟨S4x1024x56x14, .f32⟩
  | 94 => ⟨S56, .f32⟩
  | 95 => ⟨S_, .f32⟩
  | 96 => ⟨S56, .f32⟩
  | 97 => ⟨S56, .f32⟩
  | 98 => ⟨S_, .f32⟩
  | 99 => ⟨S56, .f32⟩
  | 100 => ⟨S56, .f32⟩
  | 101 => ⟨S_, .f32⟩
  | 102 => ⟨S56, .f32⟩
  | 103 => ⟨S56, .f32⟩
  | 104 => ⟨S_, .f32⟩
  | 105 => ⟨S56, .f32⟩
  | 106 => ⟨S56, .f32⟩
  | 107 => ⟨S14, .f32⟩
  | 108 => ⟨S1x56, .f32⟩
  | 109 => ⟨S14x1, .f32⟩
  | 110 => ⟨S14x56, .f32⟩
  | 111 => ⟨S14x56, .f32⟩
  | 112 => ⟨S14x56, .f32⟩
  | 113 => ⟨S14x56, .f32⟩
  | 114 => ⟨S_, .f32⟩
  | 115 => ⟨S14x56, .f32⟩
  | 116 => ⟨S14x56, .f32⟩
  | 117 => ⟨S14x56, .f32⟩
  | 118 => ⟨S_, .f32⟩
  | 119 => ⟨S14x56, .f32⟩
  | 120 => ⟨S14x56, .f32⟩
  | 121 => ⟨S_, .f32⟩
  | 122 => ⟨S14x56, .f32⟩
  | 123 => ⟨S14x56, .f32⟩
  | 124 => ⟨S_, .f32⟩
  | 125 => ⟨S56, .f32⟩
  | 126 => ⟨S1x56, .f32⟩
  | 127 => ⟨S1x56, .f32⟩
  | _ => ⟨S4x256x56x56, .f32⟩

abbrev hbmTy0_2 (i : Nat) : BufTy := match i % 128 with
  | 0 => ⟨S_, .f32⟩
  | 1 => ⟨S1x56, .f32⟩
  | 2 => ⟨S1x56, .i1⟩
  | 3 => ⟨S_, .f32⟩
  | 4 => ⟨S1x56, .f32⟩
  | 5 => ⟨S1x56, .i1⟩
  | 6 => ⟨S_, .i32⟩
  | 7 => ⟨S_, .f32⟩
  | 8 => ⟨S1x56, .f32⟩
  | 9 => ⟨S1x56, .f32⟩
  | 10 => ⟨S14x56, .f32⟩
  | 11 => ⟨S14x56, .f32⟩
  | 12 => ⟨S_, .i32⟩
  | 13 => ⟨S_, .f32⟩
  | 14 => ⟨S14x56, .i1⟩
  | 15 => ⟨S14x56, .f32⟩
  | 16 => ⟨S14x56, .f32⟩
  | 17 => ⟨S_, .f32⟩
  | 18 => ⟨S56, .f32⟩
  | 19 => ⟨S56, .i1⟩
  | 20 => ⟨S_, .f32⟩
  | 21 => ⟨S56, .f32⟩
  | 22 => ⟨S56, .i1⟩
  | 23 => ⟨S56, .i1⟩
  | 24 => ⟨S1x56, .i1⟩
  | 25 => ⟨S_, .i32⟩
  | 26 => ⟨S_, .f32⟩
  | 27 => ⟨S14x56, .i1⟩
  | 28 => ⟨S14x56, .f32⟩
  | 29 => ⟨S14x56, .f32⟩
  | 30 => ⟨S4x1024x56x56, .f32⟩
  | 31 => ⟨S4x1792x56x56, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S55, .f32⟩
  | 40 => ⟨S_, .f32⟩
  | 41 => ⟨S55, .f32⟩
  | 42 => ⟨S55, .f32⟩
  | 43 => ⟨S1, .f32⟩
  | 44 => ⟨S_, .f32⟩
  | 45 => ⟨S55, .f32⟩
  | 46 => ⟨S55, .f32⟩
  | 47 => ⟨S55, .f32⟩
  | 48 => ⟨S55, .f32⟩
  | 49 => ⟨S1, .f32⟩
  | 50 => ⟨S55, .f32⟩
  | 51 => ⟨S55, .f32⟩
  | 52 => ⟨S55, .f32⟩
  | 53 => ⟨S1, .f32⟩
  | 54 => ⟨S56, .f32⟩
  | 55 => ⟨S1x1x1x56, .f32⟩
  | 56 => ⟨S4x1x56x56, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S55, .f32⟩
  | 65 => ⟨S_, .f32⟩
  | 66 => ⟨S55, .f32⟩
  | 67 => ⟨S55, .f32⟩
  | 68 => ⟨S1, .f32⟩
  | 69 => ⟨S_, .f32⟩
  | 70 => ⟨S55, .f32⟩
  | 71 => ⟨S55, .f32⟩
  | 72 => ⟨S55, .f32⟩
  | 73 => ⟨S55, .f32⟩
  | 74 => ⟨S1, .f32⟩
  | 75 => ⟨S55, .f32⟩
  | 76 => ⟨S55, .f32⟩
  | 77 => ⟨S55, .f32⟩
  | 78 => ⟨S1, .f32⟩
  | 79 => ⟨S56, .f32⟩
  | 80 => ⟨S1x1x56x1, .f32⟩
  | 81 => ⟨S4x1x56x56, .f32⟩
  | 82 => ⟨S4x1794x56x56, .f32⟩
  | 83 => ⟨S1792x4x56x56, .f32⟩
  | 84 => ⟨S4x1792x56x56, .f32⟩
  | 85 => ⟨S1x1792x1x1, .f32⟩
  | 86 => ⟨S4x1792x56x56, .f32⟩
  | 87 => ⟨S4x1792x56x56, .f32⟩
  | 88 => ⟨S4x1792x3136, .f32⟩
  | 89 => ⟨S4x3136x1792, .f32⟩
  | 90 => ⟨S4x3136x1792, .f32⟩
  | 91 => ⟨S_, .f32⟩
  | 92 => ⟨S4x3136, .f32⟩
  | 93 => ⟨S4x3136x1, .f32⟩
  | 94 => ⟨S1792x3136, .f32⟩
  | 95 => ⟨S_, .f32⟩
  | 96 => ⟨S3136, .f32⟩
  | 97 => ⟨S1x3136, .f32⟩
  | 98 => ⟨S4x3136x3136, .f32⟩
  | 99 => ⟨S_, .f32⟩
  | 100 => ⟨S4x3136x3136, .f32⟩
  | 101 => ⟨S4x3136x3136, .f32⟩
  | 102 => ⟨S1x1x3136, .f32⟩
  | 103 => ⟨S4x3136x3136, .f32⟩
  | 104 => ⟨S4x3136x3136, .f32⟩
  | 105 => ⟨S4x3136x3136, .f32⟩
  | 106 => ⟨S4x3136x3136, .f32⟩
  | 107 => ⟨S_, .f32⟩
  | 108 => ⟨S4x3136x3136, .f32⟩
  | 109 => ⟨S4x3136x3136, .f32⟩
  | 110 => ⟨S4x3136x3136, .f32⟩
  | 111 => ⟨S4x3136x3136, .f32⟩
  | 112 => ⟨S4x3136x3, .f32⟩
  | 113 => ⟨S4x3136x3, .i32⟩
  | 114 => ⟨S4x3136x3, .f32⟩
  | 115 => ⟨S4x3136x3, .f32⟩
  | 116 => ⟨S_, .f32⟩
  | 117 => ⟨S4x3136, .f32⟩
  | 118 => ⟨S_, .f32⟩
  | 119 => ⟨S4x3136, .f32⟩
  | 120 => ⟨S4x3136, .f32⟩
  | 121 => ⟨S4x3136x1, .f32⟩
  | 122 => ⟨S4x3136x3, .f32⟩
  | 123 => ⟨S4x3136x3, .f32⟩
  | 124 => ⟨S4x3136x3, .f32⟩
  | 125 => ⟨S_, .f32⟩
  | 126 => ⟨S4x3136, .f32⟩
  | 127 => ⟨S4x3136x1, .f32⟩
  | _ => ⟨S4x256x56x56, .f32⟩

abbrev hbmTy0_3 (i : Nat) : BufTy := match i % 128 with
  | 0 => ⟨S4x3136x3, .f32⟩
  | 1 => ⟨S4x3136x3, .f32⟩
  | 2 => ⟨S4x3136x1, .f32⟩
  | 3 => ⟨S4x3136, .f32⟩
  | 4 => ⟨S4x3136x1, .f32⟩
  | 5 => ⟨S4x3136, .f32⟩
  | 6 => ⟨S4x3136, .f32⟩
  | 7 => ⟨S4x3136x1, .f32⟩
  | 8 => ⟨S_, .f32⟩
  | _ => ⟨S4x256x56x56, .f32⟩

abbrev hbmTy (i : Nat) : BufTy := match i / 128 with
  | 0 => hbmTy0_0 i
  | 1 => hbmTy0_1 i
  | 2 => hbmTy0_2 i
  | 3 => hbmTy0_3 i
  | _ => ⟨S4x256x56x56, .f32⟩

abbrev bufTy : (tb : Table) → Fin (tcTables nBuf tb) → BufTy
  | .hbm, ⟨i, _⟩ => hbmTy i
  | _, _ => ⟨S4x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_call0_cst_0 : Ref sig .tc := ⟨.hbm, 22, rfl⟩
abbrev main_call0_v3 : Ref sig .tc := ⟨.hbm, 23, rfl⟩
abbrev main_call0_v4 : Ref sig .tc := ⟨.hbm, 24, rfl⟩
abbrev main_call0_cst_1 : Ref sig .tc := ⟨.hbm, 25, rfl⟩
abbrev main_call0_v5 : Ref sig .tc := ⟨.hbm, 26, rfl⟩
abbrev main_call0_v6 : Ref sig .tc := ⟨.hbm, 27, rfl⟩
abbrev main_call0_cst_2 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_cst_3 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_cst_4 : Ref sig .tc := ⟨.hbm, 42, rfl⟩
abbrev main_call0_v19 : Ref sig .tc := ⟨.hbm, 43, rfl⟩
abbrev main_call0_v20 : Ref sig .tc := ⟨.hbm, 44, rfl⟩
abbrev main_call0_cst_5 : Ref sig .tc := ⟨.hbm, 45, rfl⟩
abbrev main_call0_v21 : Ref sig .tc := ⟨.hbm, 46, rfl⟩
abbrev main_call0_v22 : Ref sig .tc := ⟨.hbm, 47, rfl⟩
abbrev main_call0_cst_6 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_cst_7 : Ref sig .tc := ⟨.hbm, 52, rfl⟩
abbrev main_call0_v26 : Ref sig .tc := ⟨.hbm, 53, rfl⟩
abbrev main_call0_v27 : Ref sig .tc := ⟨.hbm, 54, rfl⟩
abbrev main_call0_cst_8 : Ref sig .tc := ⟨.hbm, 55, rfl⟩
abbrev main_call0_v28 : Ref sig .tc := ⟨.hbm, 56, rfl⟩
abbrev main_call0_v29 : Ref sig .tc := ⟨.hbm, 57, rfl⟩
abbrev main_call0_c : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_v30 : Ref sig .tc := ⟨.hbm, 61, rfl⟩
abbrev main_call0_v31 : Ref sig .tc := ⟨.hbm, 62, rfl⟩
abbrev main_call0_v32 : Ref sig .tc := ⟨.hbm, 63, rfl⟩
abbrev main_call0_c_9 : Ref sig .tc := ⟨.hbm, 64, rfl⟩
abbrev main_call0_call1_v0 : Ref sig .tc := ⟨.hbm, 65, rfl⟩
abbrev main_call0_call1_v1 : Ref sig .tc := ⟨.hbm, 66, rfl⟩
abbrev main_call0_call1_v2 : Ref sig .tc := ⟨.hbm, 67, rfl⟩
abbrev main_call0_v33 : Ref sig .tc := ⟨.hbm, 68, rfl⟩
abbrev main_call0_cst_10 : Ref sig .tc := ⟨.hbm, 69, rfl⟩
abbrev main_call0_v34 : Ref sig .tc := ⟨.hbm, 70, rfl⟩
abbrev main_call0_v35 : Ref sig .tc := ⟨.hbm, 71, rfl⟩
abbrev main_call0_cst_11 : Ref sig .tc := ⟨.hbm, 72, rfl⟩
abbrev main_call0_v36 : Ref sig .tc := ⟨.hbm, 73, rfl⟩
abbrev main_call0_v37 : Ref sig .tc := ⟨.hbm, 74, rfl⟩
abbrev main_call0_v38 : Ref sig .tc := ⟨.hbm, 75, rfl⟩
abbrev main_call0_v39 : Ref sig .tc := ⟨.hbm, 76, rfl⟩
abbrev main_call0_c_12 : Ref sig .tc := ⟨.hbm, 77, rfl⟩
abbrev main_call0_call2_v0 : Ref sig .tc := ⟨.hbm, 78, rfl⟩
abbrev main_call0_call2_v1 : Ref sig .tc := ⟨.hbm, 79, rfl⟩
abbrev main_call0_call2_v2 : Ref sig .tc := ⟨.hbm, 80, rfl⟩
abbrev main_call0_v40 : Ref sig .tc := ⟨.hbm, 81, rfl⟩
abbrev main_call0_v41 : Ref sig .tc := ⟨.hbm, 82, rfl⟩
abbrev main_v8 : Ref sig .tc := ⟨.hbm, 83, rfl⟩
abbrev main_call1_v0 : Ref sig .tc := ⟨.hbm, 84, rfl⟩
abbrev main_call1_cst : Ref sig .tc := ⟨.hbm, 85, rfl⟩
abbrev main_call1_v1 : Ref sig .tc := ⟨.hbm, 86, rfl⟩
abbrev main_call1_v2 : Ref sig .tc := ⟨.hbm, 87, rfl⟩
abbrev main_call1_cst_0 : Ref sig .tc := ⟨.hbm, 88, rfl⟩
abbrev main_call1_v3 : Ref sig .tc := ⟨.hbm, 89, rfl⟩
abbrev main_call1_v4 : Ref sig .tc := ⟨.hbm, 90, rfl⟩
abbrev main_call1_cst_1 : Ref sig .tc := ⟨.hbm, 91, rfl⟩
abbrev main_call1_v5 : Ref sig .tc := ⟨.hbm, 92, rfl⟩
abbrev main_call1_v6 : Ref sig .tc := ⟨.hbm, 93, rfl⟩
abbrev main_call1_cst_2 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_v15 : Ref sig .tc := ⟨.hbm, 103, rfl⟩
abbrev main_call1_cst_3 : Ref sig .tc := ⟨.hbm, 104, rfl⟩
abbrev main_call1_v16 : Ref sig .tc := ⟨.hbm, 105, rfl⟩
abbrev main_call1_v17 : Ref sig .tc := ⟨.hbm, 106, rfl⟩
abbrev main_call1_v18 : Ref sig .tc := ⟨.hbm, 107, rfl⟩
abbrev main_call1_cst_4 : Ref sig .tc := ⟨.hbm, 108, rfl⟩
abbrev main_call1_v19 : Ref sig .tc := ⟨.hbm, 109, rfl⟩
abbrev main_call1_v20 : Ref sig .tc := ⟨.hbm, 110, rfl⟩
abbrev main_call1_cst_5 : Ref sig .tc := ⟨.hbm, 111, rfl⟩
abbrev main_call1_v21 : Ref sig .tc := ⟨.hbm, 112, rfl⟩
abbrev main_call1_v22 : Ref sig .tc := ⟨.hbm, 113, rfl⟩
abbrev main_call1_cst_6 : Ref sig .tc := ⟨.hbm, 114, rfl⟩
abbrev main_call1_v23 : Ref sig .tc := ⟨.hbm, 115, rfl⟩
abbrev main_call1_v24 : Ref sig .tc := ⟨.hbm, 116, rfl⟩
abbrev main_call1_v25 : Ref sig .tc := ⟨.hbm, 117, rfl⟩
abbrev main_call1_cst_7 : Ref sig .tc := ⟨.hbm, 118, rfl⟩
abbrev main_call1_v26 : Ref sig .tc := ⟨.hbm, 119, rfl⟩
abbrev main_call1_v27 : Ref sig .tc := ⟨.hbm, 120, rfl⟩
abbrev main_call1_cst_8 : Ref sig .tc := ⟨.hbm, 121, rfl⟩
abbrev main_call1_v28 : Ref sig .tc := ⟨.hbm, 122, rfl⟩
abbrev main_call1_v29 : Ref sig .tc := ⟨.hbm, 123, rfl⟩
abbrev main_call1_c : Ref sig .tc := ⟨.hbm, 124, rfl⟩
abbrev main_call1_call0_v0 : Ref sig .tc := ⟨.hbm, 125, rfl⟩
abbrev main_call1_call0_v1 : Ref sig .tc := ⟨.hbm, 126, rfl⟩
abbrev main_call1_v30 : Ref sig .tc := ⟨.hbm, 127, rfl⟩
abbrev main_call1_v31 : Ref sig .tc := ⟨.hbm, 128, rfl⟩
abbrev main_call1_v32 : Ref sig .tc := ⟨.hbm, 129, rfl⟩
abbrev main_call1_c_9 : Ref sig .tc := ⟨.hbm, 130, rfl⟩
abbrev main_call1_call1_v0 : Ref sig .tc := ⟨.hbm, 131, rfl⟩
abbrev main_call1_call1_v1 : Ref sig .tc := ⟨.hbm, 132, rfl⟩
abbrev main_call1_call1_v2 : Ref sig .tc := ⟨.hbm, 133, rfl⟩
abbrev main_call1_v33 : Ref sig .tc := ⟨.hbm, 134, rfl⟩
abbrev main_call1_cst_10 : Ref sig .tc := ⟨.hbm, 135, rfl⟩
abbrev main_call1_v34 : Ref sig .tc := ⟨.hbm, 136, rfl⟩
abbrev main_call1_v35 : Ref sig .tc := ⟨.hbm, 137, rfl⟩
abbrev main_call1_cst_11 : Ref sig .tc := ⟨.hbm, 138, rfl⟩
abbrev main_call1_v36 : Ref sig .tc := ⟨.hbm, 139, rfl⟩
abbrev main_call1_v37 : Ref sig .tc := ⟨.hbm, 140, rfl⟩
abbrev main_call1_v38 : Ref sig .tc := ⟨.hbm, 141, rfl⟩
abbrev main_call1_v39 : Ref sig .tc := ⟨.hbm, 142, rfl⟩
abbrev main_call1_c_12 : Ref sig .tc := ⟨.hbm, 143, rfl⟩
abbrev main_call1_call2_v0 : Ref sig .tc := ⟨.hbm, 144, rfl⟩
abbrev main_call1_call2_v1 : Ref sig .tc := ⟨.hbm, 145, rfl⟩
abbrev main_call1_call2_v2 : Ref sig .tc := ⟨.hbm, 146, rfl⟩
abbrev main_call1_v40 : Ref sig .tc := ⟨.hbm, 147, rfl⟩
abbrev main_v9 : Ref sig .tc := ⟨.hbm, 148, rfl⟩
abbrev main_v10 : Ref sig .tc := ⟨.hbm, 149, rfl⟩
abbrev main_cst_3 : Ref sig .tc := ⟨.hbm, 150, rfl⟩
abbrev main_v11 : Ref sig .tc := ⟨.hbm, 151, rfl⟩
abbrev main_v12 : Ref sig .tc := ⟨.hbm, 152, rfl⟩
abbrev main_cst_4 : Ref sig .tc := ⟨.hbm, 153, rfl⟩
abbrev main_v13 : Ref sig .tc := ⟨.hbm, 154, rfl⟩
abbrev main_v14 : Ref sig .tc := ⟨.hbm, 155, rfl⟩
abbrev main_call2_v0 : Ref sig .tc := ⟨.hbm, 156, rfl⟩
abbrev main_call2_cst : Ref sig .tc := ⟨.hbm, 157, rfl⟩
abbrev main_call2_v1 : Ref sig .tc := ⟨.hbm, 158, rfl⟩
abbrev main_call2_v2 : Ref sig .tc := ⟨.hbm, 159, rfl⟩
abbrev main_call2_cst_0 : Ref sig .tc := ⟨.hbm, 160, rfl⟩
abbrev main_call2_v3 : Ref sig .tc := ⟨.hbm, 161, rfl⟩
abbrev main_call2_v4 : Ref sig .tc := ⟨.hbm, 162, rfl⟩
abbrev main_call2_cst_1 : Ref sig .tc := ⟨.hbm, 163, rfl⟩
abbrev main_call2_v5 : Ref sig .tc := ⟨.hbm, 164, rfl⟩
abbrev main_call2_v6 : Ref sig .tc := ⟨.hbm, 165, rfl⟩
abbrev main_call2_cst_2 : Ref sig .tc := ⟨.hbm, 166, rfl⟩
abbrev main_call2_v7 : Ref sig .tc := ⟨.hbm, 167, rfl⟩
abbrev main_call2_v8 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_v12 : Ref sig .tc := ⟨.hbm, 172, rfl⟩
abbrev main_call2_v13 : Ref sig .tc := ⟨.hbm, 173, rfl⟩
abbrev main_call2_v14 : Ref sig .tc := ⟨.hbm, 174, rfl⟩
abbrev main_call2_v15 : Ref sig .tc := ⟨.hbm, 175, rfl⟩
abbrev main_call2_cst_3 : Ref sig .tc := ⟨.hbm, 176, rfl⟩
abbrev main_call2_v16 : Ref sig .tc := ⟨.hbm, 177, rfl⟩
abbrev main_call2_v17 : Ref sig .tc := ⟨.hbm, 178, rfl⟩
abbrev main_call2_v18 : Ref sig .tc := ⟨.hbm, 179, rfl⟩
abbrev main_call2_cst_4 : Ref sig .tc := ⟨.hbm, 180, rfl⟩
abbrev main_call2_v19 : Ref sig .tc := ⟨.hbm, 181, rfl⟩
abbrev main_call2_v20 : Ref sig .tc := ⟨.hbm, 182, rfl⟩
abbrev main_call2_cst_5 : Ref sig .tc := ⟨.hbm, 183, rfl⟩
abbrev main_call2_v21 : Ref sig .tc := ⟨.hbm, 184, rfl⟩
abbrev main_call2_v22 : Ref sig .tc := ⟨.hbm, 185, rfl⟩
abbrev main_call2_cst_6 : Ref sig .tc := ⟨.hbm, 186, rfl⟩
abbrev main_call2_v23 : Ref sig .tc := ⟨.hbm, 187, rfl⟩
abbrev main_call2_v24 : Ref sig .tc := ⟨.hbm, 188, rfl⟩
abbrev main_call2_v25 : Ref sig .tc := ⟨.hbm, 189, rfl⟩
abbrev main_call2_cst_7 : Ref sig .tc := ⟨.hbm, 190, rfl⟩
abbrev main_call2_v26 : Ref sig .tc := ⟨.hbm, 191, rfl⟩
abbrev main_call2_v27 : Ref sig .tc := ⟨.hbm, 192, rfl⟩
abbrev main_call2_cst_8 : Ref sig .tc := ⟨.hbm, 193, rfl⟩
abbrev main_call2_v28 : Ref sig .tc := ⟨.hbm, 194, rfl⟩
abbrev main_call2_v29 : Ref sig .tc := ⟨.hbm, 195, rfl⟩
abbrev main_call2_c : Ref sig .tc := ⟨.hbm, 196, rfl⟩
abbrev main_call2_call0_v0 : Ref sig .tc := ⟨.hbm, 197, rfl⟩
abbrev main_call2_call0_v1 : Ref sig .tc := ⟨.hbm, 198, rfl⟩
abbrev main_call2_v30 : Ref sig .tc := ⟨.hbm, 199, rfl⟩
abbrev main_call2_v31 : Ref sig .tc := ⟨.hbm, 200, rfl⟩
abbrev main_call2_v32 : Ref sig .tc := ⟨.hbm, 201, rfl⟩
abbrev main_call2_c_9 : Ref sig .tc := ⟨.hbm, 202, rfl⟩
abbrev main_call2_call1_v0 : Ref sig .tc := ⟨.hbm, 203, rfl⟩
abbrev main_call2_call1_v1 : Ref sig .tc := ⟨.hbm, 204, rfl⟩
abbrev main_call2_call1_v2 : Ref sig .tc := ⟨.hbm, 205, rfl⟩
abbrev main_call2_v33 : Ref sig .tc := ⟨.hbm, 206, rfl⟩
abbrev main_call2_cst_10 : Ref sig .tc := ⟨.hbm, 207, rfl⟩
abbrev main_call2_v34 : Ref sig .tc := ⟨.hbm, 208, rfl⟩
abbrev main_call2_v35 : Ref sig .tc := ⟨.hbm, 209, rfl⟩
abbrev main_call2_cst_11 : Ref sig .tc := ⟨.hbm, 210, rfl⟩
abbrev main_call2_v36 : Ref sig .tc := ⟨.hbm, 211, rfl⟩
abbrev main_call2_v37 : Ref sig .tc := ⟨.hbm, 212, rfl⟩
abbrev main_call2_v38 : Ref sig .tc := ⟨.hbm, 213, rfl⟩
abbrev main_call2_v39 : Ref sig .tc := ⟨.hbm, 214, rfl⟩
abbrev main_call2_c_12 : Ref sig .tc := ⟨.hbm, 215, rfl⟩
abbrev main_call2_call2_v0 : Ref sig .tc := ⟨.hbm, 216, rfl⟩
abbrev main_call2_call2_v1 : Ref sig .tc := ⟨.hbm, 217, rfl⟩
abbrev main_call2_call2_v2 : Ref sig .tc := ⟨.hbm, 218, rfl⟩
abbrev main_call2_v40 : Ref sig .tc := ⟨.hbm, 219, rfl⟩
abbrev main_call2_v41 : Ref sig .tc := ⟨.hbm, 220, rfl⟩
abbrev main_v15 : Ref sig .tc := ⟨.hbm, 221, rfl⟩
abbrev main_call3_v0 : Ref sig .tc := ⟨.hbm, 222, rfl⟩
abbrev main_call3_cst : Ref sig .tc := ⟨.hbm, 223, rfl⟩
abbrev main_call3_v1 : Ref sig .tc := ⟨.hbm, 224, rfl⟩
abbrev main_call3_v2 : Ref sig .tc := ⟨.hbm, 225, rfl⟩
abbrev main_call3_cst_0 : Ref sig .tc := ⟨.hbm, 226, rfl⟩
abbrev main_call3_v3 : Ref sig .tc := ⟨.hbm, 227, rfl⟩
abbrev main_call3_v4 : Ref sig .tc := ⟨.hbm, 228, rfl⟩
abbrev main_call3_cst_1 : Ref sig .tc := ⟨.hbm, 229, rfl⟩
abbrev main_call3_v5 : Ref sig .tc := ⟨.hbm, 230, rfl⟩
abbrev main_call3_v6 : Ref sig .tc := ⟨.hbm, 231, rfl⟩
abbrev main_call3_cst_2 : Ref sig .tc := ⟨.hbm, 232, rfl⟩
abbrev main_call3_v7 : Ref sig .tc := ⟨.hbm, 233, rfl⟩
abbrev main_call3_v8 : Ref sig .tc := ⟨.hbm, 234, rfl⟩
abbrev main_call3_v9 : Ref sig .tc := ⟨.hbm, 235, rfl⟩
abbrev main_call3_v10 : Ref sig .tc := ⟨.hbm, 236, rfl⟩
abbrev main_call3_v11 : Ref sig .tc := ⟨.hbm, 237, rfl⟩
abbrev main_call3_v12 : Ref sig .tc := ⟨.hbm, 238, rfl⟩
abbrev main_call3_v13 : Ref sig .tc := ⟨.hbm, 239, rfl⟩
abbrev main_call3_v14 : Ref sig .tc := ⟨.hbm, 240, rfl⟩
abbrev main_call3_v15 : Ref sig .tc := ⟨.hbm, 241, rfl⟩
abbrev main_call3_cst_3 : Ref sig .tc := ⟨.hbm, 242, rfl⟩
abbrev main_call3_v16 : Ref sig .tc := ⟨.hbm, 243, rfl⟩
abbrev main_call3_v17 : Ref sig .tc := ⟨.hbm, 244, rfl⟩
abbrev main_call3_v18 : Ref sig .tc := ⟨.hbm, 245, rfl⟩
abbrev main_call3_cst_4 : Ref sig .tc := ⟨.hbm, 246, rfl⟩
abbrev main_call3_v19 : Ref sig .tc := ⟨.hbm, 247, rfl⟩
abbrev main_call3_v20 : Ref sig .tc := ⟨.hbm, 248, rfl⟩
abbrev main_call3_cst_5 : Ref sig .tc := ⟨.hbm, 249, rfl⟩
abbrev main_call3_v21 : Ref sig .tc := ⟨.hbm, 250, rfl⟩
abbrev main_call3_v22 : Ref sig .tc := ⟨.hbm, 251, rfl⟩
abbrev main_call3_cst_6 : Ref sig .tc := ⟨.hbm, 252, rfl⟩
abbrev main_call3_v23 : Ref sig .tc := ⟨.hbm, 253, rfl⟩
abbrev main_call3_v24 : Ref sig .tc := ⟨.hbm, 254, rfl⟩
abbrev main_call3_v25 : Ref sig .tc := ⟨.hbm, 255, rfl⟩
abbrev main_call3_cst_7 : Ref sig .tc := ⟨.hbm, 256, rfl⟩
abbrev main_call3_v26 : Ref sig .tc := ⟨.hbm, 257, rfl⟩
abbrev main_call3_v27 : Ref sig .tc := ⟨.hbm, 258, rfl⟩
abbrev main_call3_cst_8 : Ref sig .tc := ⟨.hbm, 259, rfl⟩
abbrev main_call3_v28 : Ref sig .tc := ⟨.hbm, 260, rfl⟩
abbrev main_call3_v29 : Ref sig .tc := ⟨.hbm, 261, rfl⟩
abbrev main_call3_c : Ref sig .tc := ⟨.hbm, 262, rfl⟩
abbrev main_call3_call0_v0 : Ref sig .tc := ⟨.hbm, 263, rfl⟩
abbrev main_call3_call0_v1 : Ref sig .tc := ⟨.hbm, 264, rfl⟩
abbrev main_call3_v30 : Ref sig .tc := ⟨.hbm, 265, rfl⟩
abbrev main_call3_v31 : Ref sig .tc := ⟨.hbm, 266, rfl⟩
abbrev main_call3_v32 : Ref sig .tc := ⟨.hbm, 267, rfl⟩
abbrev main_call3_c_9 : Ref sig .tc := ⟨.hbm, 268, rfl⟩
abbrev main_call3_call1_v0 : Ref sig .tc := ⟨.hbm, 269, rfl⟩
abbrev main_call3_call1_v1 : Ref sig .tc := ⟨.hbm, 270, rfl⟩
abbrev main_call3_call1_v2 : Ref sig .tc := ⟨.hbm, 271, rfl⟩
abbrev main_call3_v33 : Ref sig .tc := ⟨.hbm, 272, rfl⟩
abbrev main_call3_cst_10 : Ref sig .tc := ⟨.hbm, 273, rfl⟩
abbrev main_call3_v34 : Ref sig .tc := ⟨.hbm, 274, rfl⟩
abbrev main_call3_v35 : Ref sig .tc := ⟨.hbm, 275, rfl⟩
abbrev main_call3_cst_11 : Ref sig .tc := ⟨.hbm, 276, rfl⟩
abbrev main_call3_v36 : Ref sig .tc := ⟨.hbm, 277, rfl⟩
abbrev main_call3_v37 : Ref sig .tc := ⟨.hbm, 278, rfl⟩
abbrev main_call3_v38 : Ref sig .tc := ⟨.hbm, 279, rfl⟩
abbrev main_call3_v39 : Ref sig .tc := ⟨.hbm, 280, rfl⟩
abbrev main_call3_c_12 : Ref sig .tc := ⟨.hbm, 281, rfl⟩
abbrev main_call3_call2_v0 : Ref sig .tc := ⟨.hbm, 282, rfl⟩
abbrev main_call3_call2_v1 : Ref sig .tc := ⟨.hbm, 283, rfl⟩
abbrev main_call3_call2_v2 : Ref sig .tc := ⟨.hbm, 284, rfl⟩
abbrev main_call3_v40 : Ref sig .tc := ⟨.hbm, 285, rfl⟩
abbrev main_v16 : Ref sig .tc := ⟨.hbm, 286, rfl⟩
abbrev main_v17 : Ref sig .tc := ⟨.hbm, 287, rfl⟩
abbrev main_cst_5 : Ref sig .tc := ⟨.hbm, 288, rfl⟩
abbrev main_cst_6 : Ref sig .tc := ⟨.hbm, 289, rfl⟩
abbrev main_call4_v0 : Ref sig .tc := ⟨.hbm, 290, rfl⟩
abbrev main_call4_v1 : Ref sig .tc := ⟨.hbm, 291, rfl⟩
abbrev main_call4_v2 : Ref sig .tc := ⟨.hbm, 292, rfl⟩
abbrev main_call4_cst : Ref sig .tc := ⟨.hbm, 293, rfl⟩
abbrev main_call4_v3 : Ref sig .tc := ⟨.hbm, 294, rfl⟩
abbrev main_call4_v4 : Ref sig .tc := ⟨.hbm, 295, rfl⟩
abbrev main_call4_cst_0 : Ref sig .tc := ⟨.hbm, 296, rfl⟩
abbrev main_call4_v5 : Ref sig .tc := ⟨.hbm, 297, rfl⟩
abbrev main_call4_v6 : Ref sig .tc := ⟨.hbm, 298, rfl⟩
abbrev main_call4_v7 : Ref sig .tc := ⟨.hbm, 299, rfl⟩
abbrev main_call4_cst_1 : Ref sig .tc := ⟨.hbm, 300, rfl⟩
abbrev main_call4_v8 : Ref sig .tc := ⟨.hbm, 301, rfl⟩
abbrev main_call4_v9 : Ref sig .tc := ⟨.hbm, 302, rfl⟩
abbrev main_call4_v10 : Ref sig .tc := ⟨.hbm, 303, rfl⟩
abbrev main_call4_v11 : Ref sig .tc := ⟨.hbm, 304, rfl⟩
abbrev main_call4_v12 : Ref sig .tc := ⟨.hbm, 305, rfl⟩
abbrev main_call4_v13 : Ref sig .tc := ⟨.hbm, 306, rfl⟩
abbrev main_call4_v14 : Ref sig .tc := ⟨.hbm, 307, rfl⟩
abbrev main_call4_v15 : Ref sig .tc := ⟨.hbm, 308, rfl⟩
abbrev main_call4_v16 : Ref sig .tc := ⟨.hbm, 309, rfl⟩
abbrev main_v18 : Ref sig .tc := ⟨.hbm, 310, rfl⟩
abbrev main_v19 : Ref sig .tc := ⟨.hbm, 311, rfl⟩
abbrev main_v20 : Ref sig .tc := ⟨.hbm, 312, rfl⟩
abbrev main_cst_7 : Ref sig .tc := ⟨.hbm, 313, rfl⟩
abbrev main_cst_8 : Ref sig .tc := ⟨.hbm, 314, rfl⟩
abbrev main_call5_v0 : Ref sig .tc := ⟨.hbm, 315, rfl⟩
abbrev main_call5_v1 : Ref sig .tc := ⟨.hbm, 316, rfl⟩
abbrev main_call5_v2 : Ref sig .tc := ⟨.hbm, 317, rfl⟩
abbrev main_call5_cst : Ref sig .tc := ⟨.hbm, 318, rfl⟩
abbrev main_call5_v3 : Ref sig .tc := ⟨.hbm, 319, rfl⟩
abbrev main_call5_v4 : Ref sig .tc := ⟨.hbm, 320, rfl⟩
abbrev main_call5_cst_0 : Ref sig .tc := ⟨.hbm, 321, rfl⟩
abbrev main_call5_v5 : Ref sig .tc := ⟨.hbm, 322, rfl⟩
abbrev main_call5_v6 : Ref sig .tc := ⟨.hbm, 323, rfl⟩
abbrev main_call5_v7 : Ref sig .tc := ⟨.hbm, 324, rfl⟩
abbrev main_call5_cst_1 : Ref sig .tc := ⟨.hbm, 325, rfl⟩
abbrev main_call5_v8 : Ref sig .tc := ⟨.hbm, 326, rfl⟩
abbrev main_call5_v9 : Ref sig .tc := ⟨.hbm, 327, rfl⟩
abbrev main_call5_v10 : Ref sig .tc := ⟨.hbm, 328, rfl⟩
abbrev main_call5_v11 : Ref sig .tc := ⟨.hbm, 329, rfl⟩
abbrev main_call5_v12 : Ref sig .tc := ⟨.hbm, 330, rfl⟩
abbrev main_call5_v13 : Ref sig .tc := ⟨.hbm, 331, rfl⟩
abbrev main_call5_v14 : Ref sig .tc := ⟨.hbm, 332, rfl⟩
abbrev main_call5_v15 : Ref sig .tc := ⟨.hbm, 333, rfl⟩
abbrev main_call5_v16 : Ref sig .tc := ⟨.hbm, 334, rfl⟩
abbrev main_v21 : Ref sig .tc := ⟨.hbm, 335, rfl⟩
abbrev main_v22 : Ref sig .tc := ⟨.hbm, 336, rfl⟩
abbrev main_v23 : Ref sig .tc := ⟨.hbm, 337, rfl⟩
abbrev main_v24 : Ref sig .tc := ⟨.hbm, 338, rfl⟩
abbrev main_v25 : Ref sig .tc := ⟨.hbm, 339, rfl⟩
abbrev main_v26 : Ref sig .tc := ⟨.hbm, 340, rfl⟩
abbrev main_v27 : Ref sig .tc := ⟨.hbm, 341, rfl⟩
abbrev main_v28 : Ref sig .tc := ⟨.hbm, 342, rfl⟩
abbrev main_v29 : Ref sig .tc := ⟨.hbm, 343, rfl⟩
abbrev main_v30 : Ref sig .tc := ⟨.hbm, 344, rfl⟩
abbrev main_v31 : Ref sig .tc := ⟨.hbm, 345, rfl⟩
abbrev main_v32 : Ref sig .tc := ⟨.hbm, 346, rfl⟩
abbrev main_cst_9 : Ref sig .tc := ⟨.hbm, 347, rfl⟩
abbrev main_v33 : Ref sig .tc := ⟨.hbm, 348, rfl⟩
abbrev main_v34 : Ref sig .tc := ⟨.hbm, 349, rfl⟩
abbrev main_v35 : Ref sig .tc := ⟨.hbm, 350, rfl⟩
abbrev main_cst_10 : Ref sig .tc := ⟨.hbm, 351, rfl⟩
abbrev main_v36 : Ref sig .tc := ⟨.hbm, 352, rfl⟩
abbrev main_v37 : Ref sig .tc := ⟨.hbm, 353, rfl⟩
abbrev main_v38 : Ref sig .tc := ⟨.hbm, 354, rfl⟩
abbrev main_cst_11 : Ref sig .tc := ⟨.hbm, 355, rfl⟩
abbrev main_v39 : Ref sig .tc := ⟨.hbm, 356, rfl⟩
abbrev main_v40 : Ref sig .tc := ⟨.hbm, 357, rfl⟩
abbrev main_v41 : Ref sig .tc := ⟨.hbm, 358, rfl⟩
abbrev main_v42 : Ref sig .tc := ⟨.hbm, 359, rfl⟩
abbrev main_v43 : Ref sig .tc := ⟨.hbm, 360, rfl⟩
abbrev main_v44 : Ref sig .tc := ⟨.hbm, 361, rfl⟩
abbrev main_v45 : Ref sig .tc := ⟨.hbm, 362, rfl⟩
abbrev main_cst_12 : Ref sig .tc := ⟨.hbm, 363, rfl⟩
abbrev main_v46 : Ref sig .tc := ⟨.hbm, 364, rfl⟩
abbrev main_v47 : Ref sig .tc := ⟨.hbm, 365, rfl⟩
abbrev main_v48 : Ref sig .tc := ⟨.hbm, 366, rfl⟩
abbrev main_v49 : Ref sig .tc := ⟨.hbm, 367, rfl⟩
abbrev main_values : Ref sig .tc := ⟨.hbm, 368, rfl⟩
abbrev main_indices : Ref sig .tc := ⟨.hbm, 369, rfl⟩
abbrev main_v50 : Ref sig .tc := ⟨.hbm, 370, rfl⟩
abbrev main_v51 : Ref sig .tc := ⟨.hbm, 371, rfl⟩
abbrev main_cst_13 : Ref sig .tc := ⟨.hbm, 372, rfl⟩
abbrev main_v52 : Ref sig .tc := ⟨.hbm, 373, rfl⟩
abbrev main_cst_14 : Ref sig .tc := ⟨.hbm, 374, rfl⟩
abbrev main_v53 : Ref sig .tc := ⟨.hbm, 375, rfl⟩
abbrev main_v54 : Ref sig .tc := ⟨.hbm, 376, rfl⟩
abbrev main_v55 : Ref sig .tc := ⟨.hbm, 377, rfl⟩
abbrev main_v56 : Ref sig .tc := ⟨.hbm, 378, rfl⟩
abbrev main_v57 : Ref sig .tc := ⟨.hbm, 379, rfl⟩
abbrev main_v58 : Ref sig .tc := ⟨.hbm, 380, rfl⟩
abbrev main_cst_15 : Ref sig .tc := ⟨.hbm, 381, rfl⟩
abbrev main_v59 : Ref sig .tc := ⟨.hbm, 382, rfl⟩
abbrev main_v60 : Ref sig .tc := ⟨.hbm, 383, rfl⟩
abbrev main_v61 : Ref sig .tc := ⟨.hbm, 384, rfl⟩
abbrev main_v62 : Ref sig .tc := ⟨.hbm, 385, rfl⟩
abbrev main_v63 : Ref sig .tc := ⟨.hbm, 386, rfl⟩
abbrev main_v64 : Ref sig .tc := ⟨.hbm, 387, rfl⟩
abbrev main_v65 : Ref sig .tc := ⟨.hbm, 388, rfl⟩
abbrev main_v66 : Ref sig .tc := ⟨.hbm, 389, rfl⟩
abbrev main_v67 : Ref sig .tc := ⟨.hbm, 390, rfl⟩
abbrev main_v68 : Ref sig .tc := ⟨.hbm, 391, rfl⟩
abbrev main_cst_16 : Ref sig .tc := ⟨.hbm, 392, rfl⟩

abbrev nD : Nat := 1
abbrev τ : Topo := Topo.v7x

variable {F : FTy → Type} [FloatOps F]
-- ==== Proof.Score.Frames.lean ====
/- The claims that compare no values: the three frames and the naming of the constant "big". -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Claim

@[expose] public section

set_option maxRecDepth 16384

noncomputable section

namespace Cert.Score

open Idealize.ShloMosaic Idealize.SL.Sem

/-- The kernel runs, leaves its arguments alone and ends quiet. -/
theorem frame_kernel : Cert.quiescent_Kernel := fun m g _ => Cert.Kernel.Gen.frame m g

/-- The same for the idealized kernel. -/
theorem frame_kernelIdeal : Cert.quiescent_KernelIdeal := fun m g _ => Cert.KernelIdeal.Gen.frame m g

/-- The reference runs, leaves its arguments alone and ends quiet: it declares no semaphore. -/
theorem frame_reference : Cert.quiescent_ReferenceIdeal := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

/-- The idealized kernel's frame holds from real arguments in particular. -/
theorem frame_kernelIdeal_finite : Cert.quiescent_KernelIdeal_pre_finite := fun m g _ => frame_kernelIdeal m g trivial

/-- So does the reference's. -/
theorem frame_reference_finite : Cert.quiescent_ReferenceIdeal_pre_finite := fun m g _ => frame_reference m g trivial

/-- The constant 3e38 named "big" stands for plus infinity. -/
theorem preserves : Cert.preserves_Kernel_KernelIdeal := by
  exact IdealRules.named_const.statement Cert.KernelIdeal.κ "big" .f32 0x7F61B1E6#32 ⊤ rfl

end Cert.Score

end
-- ==== Proof.Score.Finite.lean ====
/- The precondition read: every element of the six arguments is a real number. -/
module

public import proofs.«01_k».proof.Pre_finite
public import Idealize.ShloMosaic.PureOps.Ideal
public import Idealize.ShloMosaic.Lib.ReduceAll
public import Idealize.ShloMosaic.Lib.WordCmp
public import Idealize.ShloMosaic.Lib.Affine

@[expose] public section

set_option maxRecDepth 16384

noncomputable section

namespace Cert.Score

open Idealize.ShloMosaic

/-- An extended real whose absolute value is below infinity is a real number. -/
theorem real_of_abs (x : EReal) (h : Ideal.cmp .olt (max x (-x)) (Ideal.ofBits .f32 0x7F800000#32) = 1#1) : ∃ r : ℝ, x = (r : EReal) := by
  have e : Ideal.ofBits .f32 0x7F800000#32 = (⊤ : EReal) := by
    rfl
  rw [e] at h
  have hlt : max x (-x) < (⊤ : EReal) := by
    by_contra hc
    have : Ideal.cmp .olt (max x (-x)) (⊤ : EReal) = 0#1 := by simp only [Ideal.cmp, decide_eq_false hc]; rfl
    rw [this] at h
    exact absurd h (by decide)
  induction x using EReal.rec with
  | bot => exact absurd (lt_of_le_of_lt (le_max_right _ _) hlt) (by simp)
  | top => exact absurd (lt_of_le_of_lt (le_max_left _ _) hlt) (by simp)
  | coe r => exact ⟨r, rfl⟩

open Cert.Pre_finite in
/-- What the precondition says of the arguments. -/
theorem real_of_pre [Cert.Pre_finite.Facts] (a0 : FVec Ideal S4x256x56x56 .f32) (a1 : FVec Ideal S4x512x28x28 .f32) (a2 : FVec Ideal S4x1024x14x14 .f32)
    (a3 : FVec Ideal S1792x1794 .f32) (a4 : FVec Ideal S1792 .f32) (a5 : FVec Ideal S1792x3136 .f32)
    (h : Cert.Pre_finite.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h (fun a => a.elim0)
  unfold Cert.Pre_finite.fn Cert.Pre_finite.fn_part1 at h0
  obtain h1 := IntOp.andi_eq_one.1 h0
  have e5 := h1.2
  have h2 := IntOp.andi_eq_one.1 h1.1
  have e4 := h2.2
  have h3 := IntOp.andi_eq_one.1 h2.1
  have e3 := h3.2
  have h4 := IntOp.andi_eq_one.1 h3.1
  have e2 := h4.2
  have h5 := IntOp.andi_eq_one.1 h4.1
  have e1 := h5.2
  have e0 := h5.1
  refine ⟨fun i => real_of_abs _ ?_, fun i => real_of_abs _ ?_, fun i => real_of_abs _ ?_, fun i => real_of_abs _ ?_, fun i => real_of_abs _ ?_,
    fun i => real_of_abs _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i
  · exact Host.reduce_andi_all _ _ _ _ _ e4 i
  · exact Host.reduce_andi_all _ _ _ _ _ e5 i

end Cert.Score

end
-- ==== Proof.Score.Tri.lean ====
/- The kernel's running search, written over whole registers: one insertion into three registers, one tile of four
   slices, the seven tiles in order, and the three rounds of drawing with the score made of them. The value the kernel
   stores is that composition. -/
module

public import proofs.«01_k».proof.Proof.Gen.KernelIdeal.Skeleton

@[expose] public section

set_option maxRecDepth 16384

noncomputable section

namespace Cert.Score

open Idealize.ShloMosaic
open Cert.KernelIdeal Cert.KernelIdeal.Gen

/-- A register of one value per row and lane. -/
abbrev Reg := FVec Ideal S784x128 .f32

/-- Three registers: every lane's three least values. -/
abbrev Tri := Reg × Reg × Reg

/-- One insertion, at every row and lane. -/
def insV (T : Tri) (d : Reg) : Tri :=
  (minimumf T.1 d, minimumf T.2.1 (maximumf T.1 d), minimumf T.2.2 (maximumf T.2.1 (maximumf T.1 d)))

/-- The four slices of a tile, inserted in order. -/
def tileV (T : Tri) (D : FVec Ideal S784x512 .f32) : Tri :=
  insV (insV (insV (insV T (extractStridedSlice S784x128 ![0, 0] D slices_S784x512_o0_0_S784x128))
    (extractStridedSlice S784x128 ![0, 128] D slices_S784x512_o0_128_S784x128))
    (extractStridedSlice S784x128 ![0, 256] D slices_S784x512_o0_256_S784x128))
    (extractStridedSlice S784x128 ![0, 384] D slices_S784x512_o0_384_S784x128)

/-- The registers before anything is inserted. -/
def startV : Tri := (k0_pay17 (F := Ideal), k0_pay17 (F := Ideal), k0_pay17 (F := Ideal))

/-- One tile of half distances: the centre norms less twice the inner products. -/
abbrev distV (q : FVec Ideal S784x1792 .bf16) (ce : Vec Ideal S1x512 .f32) (mb : Vec Ideal S1792x512 .bf16) :
    FVec Ideal S784x512 .f32 := k0_pay35 (F := Ideal) q ce mb

/-- The last tile, filled up with plus infinity. -/
abbrev lastV (q : FVec Ideal S784x1792 .bf16) (ce : Vec Ideal S1x64 .f32) (mb : Vec Ideal S1792x64 .bf16) : Reg :=
  k0_pay124 (F := Ideal) q ce mb

/-- The least value of every row. -/
def rowMin (m : Reg) : FVec Ideal S784x1 .f32 :=
  shapeCast S784x1 (multiReduction .minimumf [1] S784 m 0x7F800000#32 reduces_S784x128_S784 (.inl rfl) rfl) shapeCasts_S784_S784x1

/-- The lane numbers. -/
abbrev laneNo : IVec S784x128 32 := iota .tc S784x128 32 [1] iota_S784x128_d1_w32

/-- The first lane of every row that holds the row's least value, as a mask. -/
def pickV (m : Reg) : IVec S784x128 1 :=
  cmpi .eq laneNo (broadcastTo S784x128 (shapeCast S784x1 (multiReductionI .minsi [1] S784
    (select (cmpf .oeq m (broadcastTo S784x128 (rowMin m) broadcasts_S784x1_S784x128)) laneNo
      (broadcast S784x128 1073741824#32)) 2147483647#32 reduces_S784x128_S784 rfl) shapeCasts_S784_S784x1)
    broadcasts_S784x1_S784x128)

/-- The score of three half distances, the features' norms given. -/
def scoreV (feat m0 m1 m2 : FVec Ideal S784x1 .f32) : FVec Ideal S784x1 .f32 :=
  have e : FVec Ideal S784x1 .f32 := broadcast S784x1 (Scalar.ofBits .f32 0x2B8CBCCC#32)
  have d0 := sqrt (maximumf (addf feat m0) e)
  have d1 := sqrt (maximumf (addf feat m1) e)
  have d2 := sqrt (maximumf (addf feat m2) e)
  divf d0 (addf (addf (broadcast S784x1 (Scalar.ofBits .f32 0x3F800000#32)) (exp (subf d0 d1))) (exp (subf d0 d2)))

/-- The registers' first and second after the first round. -/
def afterV (T : Tri) : Reg × Reg := (select (pickV T.1) T.2.1 T.1, select (pickV T.1) T.2.2 T.2.1)

/-- The first register after the second round. -/
def after2V (A : Reg × Reg) : Reg := select (pickV A.1) A.2 A.1

/-- The score drawn from three registers. -/
def drawV (feat : FVec Ideal S784x1 .f32) (T : Tri) : FVec Ideal S784x1 .f32 :=
  scoreV feat (rowMin T.1) (rowMin (afterV T).1) (rowMin (after2V (afterV T)))

section parts

variable (q : FVec Ideal S784x1792 .bf16) (T : Tri) (c1 c2 : Vec Ideal S1x512 .f32) (m1 m2 : Vec Ideal S1792x512 .bf16)
  (D : FVec Ideal S784x512 .f32)

/-- The first two tiles. -/
theorem part4 : (k0_pay50 q (k0_pay17 (F := Ideal)) D (extractStridedSlice S784x128 ![0, 0] D slices_S784x512_o0_0_S784x128) c1 m1,
    k0_pay51 q (k0_pay17 (F := Ideal)) D (extractStridedSlice S784x128 ![0, 0] D slices_S784x512_o0_0_S784x128) c1 m1,
    k0_pay52 q (k0_pay17 (F := Ideal)) D (extractStridedSlice S784x128 ![0, 0] D slices_S784x512_o0_0_S784x128) c1 m1)
    = tileV (tileV startV D) (distV q c1 m1) := rfl

/-- The third tile and three slices of the fourth, the third insertion's last two minima still to be taken. -/
theorem part5 :
    (k0_pay82 q T.1 c1 m1 c2 m2, minimumf (k0_pay78 q T.1 T.2.1 c1 m1 c2 m2) (k0_pay81 q T.1 c1 m1 c2 m2),
      minimumf (k0_pay79 q T.1 T.2.1 T.2.2 c1 m1 c2 m2) (k0_pay83 q T.1 T.2.1 c1 m1 c2 m2))
    = insV (insV (insV (tileV T (distV q c1 m1)) (extractStridedSlice S784x128 ![0, 0] (distV q c2 m2) slices_S784x512_o0_0_S784x128))
        (extractStridedSlice S784x128 ![0, 128] (distV q c2 m2) slices_S784x512_o0_128_S784x128))
        (extractStridedSlice S784x128 ![0, 256] (distV q c2 m2) slices_S784x512_o0_256_S784x128) := rfl

/-- The fourth tile's last slice, the fifth tile and the first slice of the sixth. -/
theorem part6 (v132 v133 v135 v136 v137 : Reg) :
    (k0_pay109 q D v136 c1 m1 c2 m2, k0_pay110 q D v132 v135 v136 c1 m1 c2 m2, k0_pay111 q D v132 v133 v135 v136 v137 c1 m1 c2 m2)
      = insV (tileV (insV (v136, minimumf v132 v135, minimumf v133 v137) (extractStridedSlice S784x128 ![0, 384] D slices_S784x512_o0_384_S784x128))
          (distV q c1 m1)) (extractStridedSlice S784x128 ![0, 0] (distV q c2 m2) slices_S784x512_o0_0_S784x128) := rfl

/-- The three slices left of the sixth tile, and the short tile. -/
def restV (c7 : Vec Ideal S1x64 .f32) (m7 : Vec Ideal S1792x64 .bf16) : Tri :=
  insV (insV (insV (insV T (extractStridedSlice S784x128 ![0, 128] D slices_S784x512_o0_128_S784x128))
    (extractStridedSlice S784x128 ![0, 256] D slices_S784x512_o0_256_S784x128))
    (extractStridedSlice S784x128 ![0, 384] D slices_S784x512_o0_384_S784x128)) (lastV q c7 m7)

variable (c7 : Vec Ideal S1x64 .f32) (m7 : Vec Ideal S1792x64 .bf16)

theorem rest_0 : k0_pay126 q D T.1 c7 m7 = (restV q T D c7 m7).1 := rfl

theorem rest_1 : k0_pay127 q D T.1 T.2.1 c7 m7 = (restV q T D c7 m7).2.1 := rfl

theorem rest_min : k0_pay128 q D T.1 c7 m7 = rowMin (restV q T D c7 m7).1 :=
  (show k0_pay128 q D T.1 c7 m7 = rowMin (k0_pay126 q D T.1 c7 m7) from rfl).trans (congrArg rowMin (rest_0 q T D c7 m7))

theorem rest_pick : k0_pay129 q D T.1 c7 m7 = pickV (restV q T D c7 m7).1 :=
  (show k0_pay129 q D T.1 c7 m7 = pickV (k0_pay126 q D T.1 c7 m7) from rfl).trans (congrArg pickV (rest_0 q T D c7 m7))

theorem rest_a0 : k0_pay130 q D T.1 T.2.1 c7 m7 = (afterV (restV q T D c7 m7)).1 := by
  have h : k0_pay130 q D T.1 T.2.1 c7 m7 = select (k0_pay129 q D T.1 c7 m7) (k0_pay127 q D T.1 T.2.1 c7 m7) (k0_pay126 q D T.1 c7 m7) := rfl
  rw [h, rest_0, rest_1, rest_pick, afterV]

theorem rest_a1 : k0_pay131 q D T.1 T.2.1 T.2.2 c7 m7 = (afterV (restV q T D c7 m7)).2 := by
  have h : k0_pay131 q D T.1 T.2.1 T.2.2 c7 m7 = select (k0_pay129 q D T.1 c7 m7) (restV q T D c7 m7).2.2 (k0_pay127 q D T.1 T.2.1 c7 m7) := rfl
  rw [h, rest_1, rest_pick, afterV]

theorem rest_amin : k0_pay132 q D T.1 T.2.1 c7 m7 = rowMin (afterV (restV q T D c7 m7)).1 := by
  unfold k0_pay132; rw [rest_a0]; rfl

/-- The rest of the search, the rounds and the score. -/
theorem part7 (feat : FVec Ideal S784x1 .f32) :
    k0_pay1 feat laneNo (k0_pay128 q D T.1 c7 m7) (k0_pay130 q D T.1 T.2.1 c7 m7) (k0_pay131 q D T.1 T.2.1 T.2.2 c7 m7)
      (k0_pay132 q D T.1 T.2.1 c7 m7) (k0_pay133 q D T.1 T.2.1 c7 m7) k0_pay134
      = shapeCast S1x784x1 (drawV feat (restV q T D c7 m7)) shapeCasts_S784x1_S1x784x1 := by
  unfold k0_pay133
  rw [rest_min, rest_a0, rest_a1, rest_amin]
  rfl

end parts

/-- The seven tiles, in order. -/
def allV (q : FVec Ideal S784x1792 .bf16) (D0 : FVec Ideal S784x512 .f32) (c : Fin 6 → Vec Ideal S1x512 .f32)
    (m : Fin 6 → Vec Ideal S1792x512 .bf16) (c6 : Vec Ideal S1x64 .f32) (m6 : Vec Ideal S1792x64 .bf16) : Tri :=
  insV (tileV (tileV (tileV (tileV (tileV (tileV startV D0) (distV q (c 1) (m 1))) (distV q (c 2) (m 2))) (distV q (c 3) (m 3)))
    (distV q (c 4) (m 4))) (distV q (c 5) (m 5))) (lastV q c6 m6)

end Cert.Score

end
-- ==== Proof.Score.Kth.lean ====
/- The element of a given rank of a finite family, described by counting: how many members lie at or below it, and how
   many lie strictly below it. The description fixes the value, survives a monotone map, and holds of the first places
   of a stable sort. -/
module

public import Mathlib.Data.EReal.Basic
public import Mathlib.Data.Fintype.Card
public import Mathlib.Algebra.Order.BigOperators.Group.Finset
public import Idealize.ShloMosaic.Lib.SortFacts

@[expose] public section

noncomputable section

namespace Cert.Score

open Classical
open Idealize.ShloMosaic

/-- How many members of the family satisfy `P`. -/
def cnt {ι : Type} [Fintype ι] (P : EReal → Prop) (f : ι → EReal) : ℕ := ∑ i, if P (f i) then 1 else 0

theorem cnt_eq_card {ι : Type} [Fintype ι] (P : EReal → Prop) (f : ι → EReal) :
    cnt P f = (Finset.univ.filter fun i => P (f i)).card := by
  unfold cnt; rw [Finset.card_filter]

theorem cnt_mono {ι : Type} [Fintype ι] {P Q : EReal → Prop} {f g : ι → EReal} (h : ∀ i, P (f i) → Q (g i)) :
    cnt P f ≤ cnt Q g := by
  rw [cnt_eq_card, cnt_eq_card]
  exact Finset.card_le_card fun i => by simpa using h i

/-- `m` has rank `k` in `f`, ranks counted from zero: more than `k` members are at most `m`, and at most `k` are less. -/
def IsKth {ι : Type} [Fintype ι] (k : ℕ) (f : ι → EReal) (m : EReal) : Prop :=
  k + 1 ≤ cnt (· ≤ m) f ∧ cnt (· < m) f ≤ k

theorem IsKth.unique {ι : Type} [Fintype ι] {k : ℕ} {f : ι → EReal} {m m' : EReal} (h : IsKth k f m) (h' : IsKth k f m') :
    m = m' := by
  have aux : ∀ {a b : EReal}, IsKth k f a → IsKth k f b → ¬ a < b := by
    intro a b ha hb hab
    have h1 : cnt (· ≤ a) f ≤ cnt (· < b) f := cnt_mono fun i hi => lt_of_le_of_lt hi hab
    have := ha.1; have := hb.2; omega
  exact le_antisymm (not_lt.1 (aux h' h)) (not_lt.1 (aux h h'))

theorem IsKth.map {ι : Type} [Fintype ι] {k : ℕ} {f : ι → EReal} {m : EReal} (h : IsKth k f m) {g : EReal → EReal}
    (hg : Monotone g) : IsKth k (fun i => g (f i)) (g m) := by
  constructor
  · exact h.1.trans (cnt_mono fun i hi => hg hi)
  · refine le_trans (cnt_mono fun i hi => ?_) h.2
    by_contra hc
    exact absurd (hg (not_lt.1 hc)) (not_le.2 hi)

/-- The value a stable sort puts at place `k` has rank `k`, when the sort puts `i` before `j` exactly if `f i < f j`. -/
theorem isKth_sortedFrom {n : ℕ} (f : Fin n → EReal) (B : Fin n → Fin n → Bool) (hB : ∀ a b, B a b = true ↔ f a < f b)
    (k : Fin n) : IsKth k.val f (f (sortedFrom B k)) := by
  have hno : ∀ i j : Fin n, i < j → f (sortedFrom B i) ≤ f (sortedFrom B j) := by
    intro i j hij
    have := sortedFrom_noInversion B B (fun a b h => by
        have h1 := (hB a b).1 h
        rw [Bool.eq_false_iff]; intro h2
        exact absurd ((hB b a).1 h2) (not_lt.2 h1.le)) (fun a b h => h)
      (fun a b c h1 h2 => by
        rw [Bool.eq_false_iff] at *
        intro h3
        have := (hB a c).1 h3
        have h1' : f b ≤ f a := not_lt.1 fun h => h1 ((hB a b).2 h)
        have h2' : f c ≤ f b := not_lt.1 fun h => h2 ((hB b c).2 h)
        exact absurd (h2'.trans h1') (not_le.2 this)) i j hij
    rw [Bool.eq_false_iff] at this
    exact not_lt.1 fun h => this ((hB _ _).2 h)
  have hle : ∀ i j : Fin n, i ≤ j → f (sortedFrom B i) ≤ f (sortedFrom B j) := by
    intro i j hij
    rcases hij.lt_or_eq with h | h
    · exact hno i j h
    · rw [h]
  constructor
  · rw [cnt_eq_card]
    have hsub : (Finset.Iic k).image (sortedFrom B) ⊆ Finset.univ.filter fun i => f i ≤ f (sortedFrom B k) := by
      intro x hx
      obtain ⟨i, hi, rfl⟩ := Finset.mem_image.1 hx
      simpa using hle i k (Finset.mem_Iic.1 hi)
    have := Finset.card_le_card hsub
    rw [Finset.card_image_of_injective _ (sortedFrom_injective B), Fin.card_Iic] at this
    convert this
  · rw [cnt_eq_card]
    have hsub : (Finset.univ.filter fun i => f i < f (sortedFrom B k)) ⊆ (Finset.Iio k).image (sortedFrom B) := by
      intro x hx
      obtain ⟨i, rfl⟩ := sortedFrom_surjective B x
      refine Finset.mem_image.2 ⟨i, Finset.mem_Iio.2 ?_, rfl⟩
      have hx' : f (sortedFrom B i) < f (sortedFrom B k) := by simpa using hx
      by_contra hc
      exact absurd (hle k i (not_lt.1 hc)) (not_le.2 hx')
    have := Finset.card_le_card hsub
    rw [Finset.card_image_of_injective _ (sortedFrom_injective B), Fin.card_Iio] at this
    convert this

end Cert.Score

end
-- ==== Proof.Score.Lanes.lean ====
/- Keeping the three least values of each of several lanes, and then drawing the three least of all.

   A lane's state is a triple in ascending order. `ins` is one step of the running insertion, `rounds` facts say what
   drawing the least of the lane minima and shifting that lane's triple does. Everything is stated for a predicate `P`
   that passes to smaller values and fails at plus infinity: membership below a bound, strict or not. -/
module

public import proofs.«01_k».proof.Proof.Score.Kth

@[expose] public section

noncomputable section

namespace Cert.Score

open Classical

/-- A predicate that passes to smaller values and fails at plus infinity. -/
structure Low (P : EReal → Prop) : Prop where
  down : ∀ {a b : EReal}, a ≤ b → P b → P a
  top : ¬ P ⊤

theorem Low.min {P : EReal → Prop} (h : Low P) (a b : EReal) : P (min a b) ↔ P a ∨ P b := by
  constructor
  · intro hp
    rcases min_choice a b with e | e <;> rw [e] at hp
    · exact Or.inl hp
    · exact Or.inr hp
  · rintro (hp | hp)
    · exact h.down (min_le_left _ _) hp
    · exact h.down (min_le_right _ _) hp

theorem Low.max {P : EReal → Prop} (h : Low P) (a b : EReal) : P (max a b) ↔ P a ∧ P b := by
  constructor
  · intro hp
    exact ⟨h.down (le_max_left _ _) hp, h.down (le_max_right _ _) hp⟩
  · rintro ⟨ha, hb⟩
    rcases max_choice a b with e | e <;> rw [e]
    · exact ha
    · exact hb

theorem low_lt (v : EReal) : Low (· < v) := ⟨fun h h' => lt_of_le_of_lt h h', by simp⟩

theorem low_le {v : EReal} (hv : v < ⊤) : Low (· ≤ v) := ⟨fun h h' => h.trans h', by simpa using hv.ne⟩

/-- One step of the running insertion into a triple. -/
def ins (t : EReal × EReal × EReal) (d : EReal) : EReal × EReal × EReal :=
  (min t.1 d, min t.2.1 (max t.1 d), min t.2.2 (max t.2.1 (max t.1 d)))

/-- The triple before anything is inserted. -/
def empty3 : EReal × EReal × EReal := (⊤, ⊤, ⊤)

/-- The triple left by inserting a list of values, in order. -/
def insAll (l : List EReal) : EReal × EReal × EReal := l.foldl ins empty3

/-- How many members of a list satisfy `P`. -/
def cntL (P : EReal → Prop) (l : List EReal) : ℕ := (l.map fun x => if P x then 1 else 0).sum

/-- What a triple knows of the list inserted so far. -/
structure Knows (P : EReal → Prop) (t : EReal × EReal × EReal) (n : ℕ) : Prop where
  h0 : P t.1 ↔ 1 ≤ n
  h1 : P t.2.1 ↔ 2 ≤ n
  h2 : P t.2.2 ↔ 3 ≤ n

theorem knows_empty {P : EReal → Prop} (h : Low P) : Knows P empty3 0 :=
  ⟨by simpa [empty3] using h.top, by simpa [empty3] using h.top, by simpa [empty3] using h.top⟩

theorem Knows.ins {P : EReal → Prop} (h : Low P) {t : EReal × EReal × EReal} {n : ℕ} (k : Knows P t n) (d : EReal) :
    Knows P (ins t d) (n + if P d then 1 else 0) := by
  obtain ⟨k0, k1, k2⟩ := k
  refine ⟨?_, ?_, ?_⟩
  · simp only [Score.ins, h.min, k0]
    split_ifs with hd <;> simp [hd]
  · simp only [Score.ins, h.min, h.max, k0, k1]
    split_ifs with hd <;> simp [hd] <;> omega
  · simp only [Score.ins, h.min, h.max, k0, k1, k2]
    split_ifs with hd <;> simp [hd] <;> omega

theorem knows_insAll {P : EReal → Prop} (h : Low P) (l : List EReal) : Knows P (insAll l) (cntL P l) := by
  have aux : ∀ (l : List EReal) (t : EReal × EReal × EReal) (n : ℕ), Knows P t n → Knows P (l.foldl ins t) (n + cntL P l) := by
    intro l
    induction l with
    | nil => intro t n k; simpa [cntL] using k
    | cons a l ih =>
      intro t n k
      have := ih (ins t a) _ (k.ins h a)
      simpa [cntL, add_assoc] using this
  simpa [insAll] using aux l empty3 0 (knows_empty h)

/-- A triple in ascending order. -/
def Asc (t : EReal × EReal × EReal) : Prop := t.1 ≤ t.2.1 ∧ t.2.1 ≤ t.2.2

theorem asc_insAll (l : List EReal) : Asc (insAll l) := by
  have aux : ∀ (l : List EReal) (t : EReal × EReal × EReal), Asc t → Asc (l.foldl ins t) := by
    intro l
    induction l with
    | nil => intro t k; exact k
    | cons a l ih =>
      intro t k
      refine ih _ ⟨?_, ?_⟩
      · exact le_min ((min_le_left _ _).trans k.1) ((min_le_left _ _).trans (le_max_left _ _))
      · exact le_min ((min_le_left _ _).trans k.2) ((min_le_left _ _).trans (le_max_left _ _))
  exact aux l empty3 ⟨le_rfl, le_rfl⟩

variable {n : ℕ}

/-- How many of the kept values of all lanes satisfy `P`. -/
def kept (P : EReal → Prop) (S : Fin n → EReal × EReal × EReal) : ℕ :=
  ∑ l, ((if P (S l).1 then 1 else 0) + (if P (S l).2.1 then 1 else 0) + (if P (S l).2.2 then 1 else 0))

/-- The least of the lane minima. -/
def least (S : Fin n → EReal × EReal × EReal) : EReal := Finset.univ.inf fun l => (S l).1

/-- The state after lane `i` gave up its least value. -/
def shift (S : Fin n → EReal × EReal × EReal) (i : Fin n) : Fin n → EReal × EReal × EReal :=
  fun l => if l = i then ((S l).2.1, (S l).2.2, ⊤) else S l

theorem low_least {P : EReal → Prop} (h : Low P) (S : Fin n → EReal × EReal × EReal) : P (least S) ↔ ∃ l, P (S l).1 := by
  unfold least
  constructor
  · intro hp
    by_cases hne : (Finset.univ : Finset (Fin n)).Nonempty
    · obtain ⟨l, _, hl⟩ := Finset.exists_mem_eq_inf Finset.univ hne fun l => (S l).1
      exact ⟨l, hl ▸ hp⟩
    · rw [Finset.not_nonempty_iff_eq_empty.1 hne, Finset.inf_empty] at hp
      exact absurd hp h.top
  · rintro ⟨l, hl⟩
    exact h.down (Finset.inf_le (Finset.mem_univ l)) hl

theorem low_least_iff {P : EReal → Prop} (h : Low P) (S : Fin n → EReal × EReal × EReal) (hS : ∀ l, Asc (S l)) :
    P (least S) ↔ 1 ≤ kept P S := by
  rw [low_least h]
  constructor
  · rintro ⟨l, hl⟩
    unfold kept
    refine le_trans ?_ (Finset.single_le_sum (f := fun l => (if P (S l).1 then 1 else 0) + (if P (S l).2.1 then 1 else 0) + (if P (S l).2.2 then 1 else 0)) (fun _ _ => Nat.zero_le _) (Finset.mem_univ l))
    simp only [if_pos hl]; omega
  · intro hk
    by_contra hc
    push Not at hc
    have : kept P S = 0 := by
      unfold kept
      refine Finset.sum_eq_zero fun l _ => ?_
      have h1 : ¬ P (S l).2.1 := fun h' => hc l (h.down (hS l).1 h')
      have h2 : ¬ P (S l).2.2 := fun h' => h1 (h.down (hS l).2 h')
      simp [hc l, h1, h2]
    omega

theorem asc_shift (S : Fin n → EReal × EReal × EReal) (hS : ∀ l, Asc (S l)) (i : Fin n) : ∀ l, Asc (shift S i l) := by
  intro l
  unfold shift
  split_ifs
  · exact ⟨(hS l).2, le_top⟩
  · exact hS l

theorem kept_shift {P : EReal → Prop} (h : Low P) (S : Fin n → EReal × EReal × EReal) (i : Fin n) :
    kept P S = kept P (shift S i) + if P (S i).1 then 1 else 0 := by
  unfold kept
  rw [← Finset.add_sum_erase Finset.univ (fun l => (if P (S l).1 then 1 else 0) + (if P (S l).2.1 then 1 else 0) + (if P (S l).2.2 then 1 else 0)) (Finset.mem_univ i), ← Finset.add_sum_erase Finset.univ (fun l => (if P (shift S i l).1 then 1 else 0) + (if P (shift S i l).2.1 then 1 else 0) + (if P (shift S i l).2.2 then 1 else 0)) (Finset.mem_univ i)]
  have e : ∑ x ∈ Finset.univ.erase i, ((if P (S x).1 then 1 else 0) + (if P (S x).2.1 then 1 else 0) + (if P (S x).2.2 then 1 else 0))
      = ∑ x ∈ Finset.univ.erase i, ((if P (shift S i x).1 then 1 else 0) + (if P (shift S i x).2.1 then 1 else 0) + (if P (shift S i x).2.2 then 1 else 0)) := by
    refine Finset.sum_congr rfl fun x hx => ?_
    have : shift S i x = S x := by unfold shift; rw [if_neg (Finset.ne_of_mem_erase hx)]
    rw [this]
  simp only [e]
  have hi : shift S i i = ((S i).2.1, (S i).2.2, ⊤) := by unfold shift; rw [if_pos rfl]
  rw [hi]
  simp only [h.top, if_false]
  omega

/-- Three rounds of drawing: the drawn value of round `k` satisfies `P` exactly if more than `k` kept values do. -/
theorem rounds {P : EReal → Prop} (h : Low P) (S : Fin n → EReal × EReal × EReal) (hS : ∀ l, Asc (S l)) (i j : Fin n)
    (hi : (S i).1 = least S) (hj : (shift S i j).1 = least (shift S i)) :
    (P (least S) ↔ 1 ≤ kept P S) ∧ (P (least (shift S i)) ↔ 2 ≤ kept P S)
      ∧ (P (least (shift (shift S i) j)) ↔ 3 ≤ kept P S) := by
  have a0 := low_least_iff h S hS
  have a1 := low_least_iff h _ (asc_shift S hS i)
  have a2 := low_least_iff h _ (asc_shift _ (asc_shift S hS i) j)
  have k0 := kept_shift h S i
  have k1 := kept_shift h (shift S i) j
  rw [hi] at k0
  rw [hj] at k1
  refine ⟨a0, ?_, ?_⟩
  · rw [a1]
    by_cases p0 : P (least S)
    · simp only [p0, if_true] at k0; omega
    · simp only [p0, if_false] at k0
      have := mt a0.2 p0; omega
  · rw [a2]
    by_cases p0 : P (least S)
    · simp only [p0, if_true] at k0
      by_cases p1 : P (least (shift S i))
      · simp only [p1, if_true] at k1; omega
      · simp only [p1, if_false] at k1
        have := mt a1.2 p1; omega
    · simp only [p0, if_false] at k0
      have := mt a0.2 p0
      by_cases p1 : P (least (shift S i))
      · simp only [p1, if_true] at k1; omega
      · simp only [p1, if_false] at k1
        omega

/-- The kept values stand for all values, as far as counts up to three go. -/
theorem kept_insAll {P : EReal → Prop} (h : Low P) (v : Fin n → List EReal) :
    kept P (fun l => insAll (v l)) = ∑ l, min 3 (cntL P (v l)) := by
  unfold kept
  refine Finset.sum_congr rfl fun l _ => ?_
  obtain ⟨k0, k1, k2⟩ := knows_insAll h (v l)
  simp only [k0, k1, k2]
  split_ifs <;> omega

theorem le_sum_min (a : Fin n → ℕ) (k : ℕ) (hk : k ≤ 3) : k ≤ ∑ l, min 3 (a l) ↔ k ≤ ∑ l, a l := by
  constructor
  · intro hh
    exact hh.trans (Finset.sum_le_sum fun l _ => min_le_right _ _)
  · intro hh
    by_cases hc : ∃ l, 3 ≤ a l
    · obtain ⟨l, hl⟩ := hc
      refine hk.trans (le_trans ?_ (Finset.single_le_sum (f := fun l => min 3 (a l)) (fun _ _ => Nat.zero_le _) (Finset.mem_univ l)))
      simp [hl]
    · push Not at hc
      refine hh.trans (Finset.sum_le_sum fun l _ => ?_)
      have := hc l
      omega

/-- The three drawn values are the values of rank 0, 1, 2 of the whole family `f`, when the lanes together hold `f` and
    otherwise only plus infinity, and every member of `f` is finite above. -/
theorem drawn {N : ℕ} (f : Fin N → EReal) (hN : 3 ≤ N) (hf : ∀ i, f i < ⊤) (v : Fin n → List EReal)
    (hv : ∀ P : EReal → Prop, Low P → ∑ l, cntL P (v l) = cnt P f) (S : Fin n → EReal × EReal × EReal)
    (hS : ∀ l, S l = insAll (v l)) (i j : Fin n) (hi : (S i).1 = least S) (hj : (shift S i j).1 = least (shift S i)) :
    IsKth 0 f (least S) ∧ IsKth 1 f (least (shift S i)) ∧ IsKth 2 f (least (shift (shift S i) j)) := by
  have hasc : ∀ l, Asc (S l) := fun l => by rw [hS l]; exact asc_insAll _
  have hkept : ∀ {P : EReal → Prop}, Low P → ∀ k, k ≤ 3 → (k ≤ kept P S ↔ k ≤ cnt P f) := by
    intro P hP k hk
    have : kept P S = ∑ l, min 3 (cntL P (v l)) := by
      rw [show S = fun l => insAll (v l) from funext hS]; exact kept_insAll hP v
    rw [this, le_sum_min _ k hk, hv P hP]
  have main : ∀ (k : ℕ) (m : EReal), k ≤ 2 → (∀ {P : EReal → Prop}, Low P → (P m ↔ k + 1 ≤ kept P S)) → IsKth k f m := by
    intro k m hk hm
    have hmtop : m < ⊤ := by
      set M := Finset.univ.sup f with hM
      have hMtop : M < ⊤ := by
        rw [hM, Finset.sup_lt_iff (by simp)]
        exact fun i _ => hf i
      refine lt_of_le_of_lt ((hm (low_le hMtop)).2 ?_) hMtop
      rw [hkept (low_le hMtop) _ (by omega)]
      have : cnt (· ≤ M) f = N := by
        unfold cnt
        have : ∀ i, f i ≤ M := fun i => Finset.le_sup (Finset.mem_univ i)
        simp [this]
      omega
    constructor
    · rw [← hkept (low_le hmtop) _ (by omega)]
      exact (hm (low_le hmtop)).1 le_rfl
    · by_contra hc
      have : k + 1 ≤ cnt (· < m) f := by omega
      rw [← hkept (low_lt m) _ (by omega)] at this
      exact lt_irrefl _ ((hm (low_lt m)).2 this)
  exact ⟨main 0 _ (by omega) fun h => (rounds h S hasc i j hi hj).1,
    main 1 _ (by omega) fun h => (rounds h S hasc i j hi hj).2.1,
    main 2 _ (by omega) fun h => (rounds h S hasc i j hi hj).2.2⟩

end Cert.Score

end
-- ==== Proof.Score.Row.lean ====
/- One row of the kernel's rounds, read lane by lane: the least value of the row, the first lane holding it, what that
   lane's registers become, and the score. -/
module

public import proofs.«01_k».proof.Proof.Score.Tri
public import proofs.«01_k».proof.Proof.Score.Lanes
public import Idealize.ShloMosaic.Lib.Pointwise
public import Idealize.ShloMosaic.Lib.ValueIdx

@[expose] public section

set_option maxRecDepth 16384

noncomputable section

namespace Cert.Score

open Idealize.ShloMosaic
open Cert.KernelIdeal Cert.KernelIdeal.Gen

theorem inf_word : Ideal.ofBits .f32 0x7F800000#32 = (⊤ : EReal) := by
  simp [Ideal.ofBits, Ideal.ieee]

/-- The signed minimum of a family of words and a start: at most every word, and one of them or the start. -/
theorem fold_minsi {ι : Type} [DecidableEq ι] (f : ι → BitVec 32) (z : BitVec 32) (s : Finset ι) :
    (∀ x ∈ s, (Finset.fold IntOp.minsi z f s).toInt ≤ (f x).toInt)
      ∧ (Finset.fold IntOp.minsi z f s = z ∨ ∃ x ∈ s, Finset.fold IntOp.minsi z f s = f x) := by
  induction s using Finset.induction_on with
  | empty => simp
  | insert a s ha ih =>
    rw [Finset.fold_insert ha]
    obtain ⟨h1, h2⟩ := ih
    by_cases hlt : (f a).toInt < (Finset.fold IntOp.minsi z f s).toInt
    · have e : IntOp.minsi (f a) (Finset.fold IntOp.minsi z f s) = f a := by
        simp [IntOp.minsi, BitVec.slt, hlt]
      rw [e]
      refine ⟨fun x hx => ?_, Or.inr ⟨a, Finset.mem_insert_self _ _, rfl⟩⟩
      rcases Finset.mem_insert.1 hx with rfl | hx
      · exact le_rfl
      · exact hlt.le.trans (h1 x hx)
    · have e : IntOp.minsi (f a) (Finset.fold IntOp.minsi z f s) = Finset.fold IntOp.minsi z f s := by
        simp [IntOp.minsi, BitVec.slt, hlt]
      rw [e]
      refine ⟨fun x hx => ?_, ?_⟩
      · rcases Finset.mem_insert.1 hx with rfl | hx
        · exact not_lt.1 hlt
        · exact h1 x hx
      · rcases h2 with h2 | ⟨x, hx, h2⟩
        · exact Or.inl h2
        · exact Or.inr ⟨x, Finset.mem_insert_of_mem hx, h2⟩

theorem toInt_lane (x : Fin 128) : (BitVec.ofNat 32 x.val).toInt = x.val := by
  have := x.isLt
  rw [BitVec.toInt_eq_toNat_cond, BitVec.toNat_ofNat]
  omega

/-- The search for the first lane ends at a lane that meets the condition, if one does. -/
theorem first_lane (p : Fin 128 → Prop) [DecidablePred p] (h : ∃ x, p x) :
    ∃ i, p i ∧ Finset.fold IntOp.minsi 2147483647#32 (fun x : Fin 128 => if p x then BitVec.ofNat 32 x.val else 1073741824#32) Finset.univ
      = BitVec.ofNat 32 i.val := by
  obtain ⟨x, hx⟩ := h
  obtain ⟨h1, h2⟩ := fold_minsi (fun x : Fin 128 => if p x then BitVec.ofNat 32 x.val else 1073741824#32) 2147483647#32 Finset.univ
  have hle := h1 x (Finset.mem_univ x)
  simp only [if_pos hx, toInt_lane] at hle
  have hx' := x.isLt
  rcases h2 with h2 | ⟨i, _, h2⟩
  · rw [h2] at hle
    have : (2147483647#32).toInt = 2147483647 := by decide
    omega
  · by_cases hi : p i
    · exact ⟨i, hi, by rw [h2, if_pos hi]⟩
    · simp only [if_neg hi] at h2
      rw [h2] at hle
      have : (1073741824#32).toInt = 1073741824 := by decide
      omega

theorem lane_inj (l i : Fin 128) : BitVec.ofNat 32 l.val = BitVec.ofNat 32 i.val ↔ l = i := by
  constructor
  · intro h
    have := congrArg BitVec.toInt h
    rw [toInt_lane, toInt_lane] at this
    exact Fin.ext (by exact_mod_cast this)
  · rintro rfl; rfl

theorem rowMin_at (m : Reg) (r : Fin 784) : rowMin m (ix2 r 0) = Finset.univ.inf fun l : Fin 128 => m (ix2 r l) := by
  pointwise [rowMin]
  rw [inf_word]
  rfl

/-- The mask marks one lane, and that lane holds the row's least value. -/
theorem pick_at (m : Reg) (r : Fin 784) :
    ∃ i : Fin 128, m (ix2 r i) = (Finset.univ.inf fun l : Fin 128 => m (ix2 r l)) ∧ ∀ l : Fin 128, pickV m (ix2 r l) = if l = i then 1#1 else 0#1 := by
  obtain ⟨i, hi, hf⟩ := first_lane (fun x : Fin 128 => m (ix2 r x) = rowMin m (ix2 r 0)) (by
    obtain ⟨l, _, hl⟩ := Finset.exists_mem_eq_inf (Finset.univ : Finset (Fin 128)) ⟨0, Finset.mem_univ 0⟩ fun l => m (ix2 r l)
    exact ⟨l, by rw [rowMin_at, hl]⟩)
  refine ⟨i, by rw [hi, rowMin_at], fun l => ?_⟩
  pointwise [pickV]
  rw [hf]
  by_cases h : l = i
  · simp [IntOp.cmpi, h]
  · have : ¬ BitVec.ofNat 32 l.val = BitVec.ofNat 32 i.val := fun e => h ((lane_inj l i).1 e)
    have e : (BitVec.ofNat 32 l.val == BitVec.ofNat 32 i.val) = false := beq_eq_false_iff_ne.2 this
    show BitVec.ofBool (BitVec.ofNat 32 l.val == BitVec.ofNat 32 i.val) = _
    rw [e, if_neg h]; rfl

/-- The score of three half distances with the feature's norm. -/
def score (f a b c : EReal) : EReal :=
  Ideal.div (Ideal.sqrt (max (f + a) (Ideal.ofBits .f32 0x2B8CBCCC#32)))
    (1 + Ideal.exp (Ideal.sqrt (max (f + a) (Ideal.ofBits .f32 0x2B8CBCCC#32)) - Ideal.sqrt (max (f + b) (Ideal.ofBits .f32 0x2B8CBCCC#32)))
      + Ideal.exp (Ideal.sqrt (max (f + a) (Ideal.ofBits .f32 0x2B8CBCCC#32)) - Ideal.sqrt (max (f + c) (Ideal.ofBits .f32 0x2B8CBCCC#32))))

theorem scoreV_at (f a b c : FVec Ideal S784x1 .f32) (r : Fin 784) :
    scoreV f a b c (ix2 r 0) = score (f (ix2 r 0)) (a (ix2 r 0)) (b (ix2 r 0)) (c (ix2 r 0)) := by
  pointwise [scoreV]
  rfl

/-- One row's triples. -/
def rowTri (T : Tri) (r : Fin 784) : Fin 128 → EReal × EReal × EReal := fun l => (T.1 (ix2 r l), T.2.1 (ix2 r l), T.2.2 (ix2 r l))

theorem sel_at (p : IVec S784x128 1) (a b : Reg) (i : S784x128.Idx) : select p a b i = if p i = 1#1 then a i else b i := rfl

theorem afterV_fst (T : Tri) : (afterV T).1 = select (pickV T.1) T.2.1 T.1 := by rw [afterV]

theorem afterV_snd (T : Tri) : (afterV T).2 = select (pickV T.1) T.2.2 T.2.1 := by rw [afterV]

theorem after2V_eq (A : Reg × Reg) : after2V A = select (pickV A.1) A.2 A.1 := by rw [after2V]

/-- One row of the drawing: the score of the three drawn values. -/
theorem drawV_at (feat : FVec Ideal S784x1 .f32) (T : Tri) (r : Fin 784) :
    ∃ i j : Fin 128, (rowTri T r i).1 = least (rowTri T r) ∧ (shift (rowTri T r) i j).1 = least (shift (rowTri T r) i)
      ∧ drawV feat T (ix2 r 0) = score (feat (ix2 r 0)) (least (rowTri T r)) (least (shift (rowTri T r) i)) (least (shift (shift (rowTri T r) i) j)) := by
  obtain ⟨i, hi, pi⟩ := pick_at T.1 r
  obtain ⟨j, hj, pj⟩ := pick_at (afterV T).1 r
  have a1 : ∀ l, (afterV T).1 (ix2 r l) = (shift (rowTri T r) i l).1 := by
    intro l
    rw [afterV_fst, sel_at, pi l, shift]
    by_cases h : l = i <;> simp [h, rowTri]
  have a2 : ∀ l, (afterV T).2 (ix2 r l) = (shift (rowTri T r) i l).2.1 := by
    intro l
    rw [afterV_snd, sel_at, pi l, shift]
    by_cases h : l = i <;> simp [h, rowTri]
  have a3 : ∀ l, after2V (afterV T) (ix2 r l) = (shift (shift (rowTri T r) i) j l).1 := by
    intro l
    rw [after2V_eq, sel_at, pj l, a1, a2]
    generalize shift (rowTri T r) i = S'
    rw [shift]
    by_cases h : l = j <;> simp [h]
  refine ⟨i, j, hi, ?_, ?_⟩
  · rw [← a1, hj, least]
    simp only [a1]
  · rw [drawV, scoreV_at, rowMin_at, rowMin_at, rowMin_at]
    simp only [a1, a3]
    simp only [least, rowTri]

end Cert.Score

end
-- ==== Proof.Score.Search.lean ====
/- The search over all 3136 centres at one row: the seven tiles hand every lane its 25 values, the last of them plus
   infinity in the upper half of the lanes, so the three drawn values are the three least of the whole row. -/
module

public import proofs.«01_k».proof.Proof.Score.Row
public import Mathlib.Logic.Equiv.Fin.Basic

@[expose] public section

set_option maxRecDepth 16384

noncomputable section

namespace Cert.Score

open Classical
open Idealize.ShloMosaic
open Cert.KernelIdeal Cert.KernelIdeal.Gen

/-- Three registers at one place. -/
def at3 (T : Tri) (i : S784x128.Idx) : EReal × EReal × EReal := (T.1 i, T.2.1 i, T.2.2 i)

theorem at3_ins (T : Tri) (d : Reg) (i : S784x128.Idx) : at3 (insV T d) i = ins (at3 T i) (d i) := rfl

theorem at3_start (i : S784x128.Idx) : at3 startV i = empty3 := rfl

theorem slice0_at (D : FVec Ideal S784x512 .f32) (r : Fin 784) (l : Fin 128) :
    extractStridedSlice S784x128 ![0, 0] D slices_S784x512_o0_0_S784x128 (ix2 r l) = D (ix2 r ⟨l.val, by omega⟩) := by
  pointwise!

theorem slice1_at (D : FVec Ideal S784x512 .f32) (r : Fin 784) (l : Fin 128) :
    extractStridedSlice S784x128 ![0, 128] D slices_S784x512_o0_128_S784x128 (ix2 r l) = D (ix2 r ⟨128 + l.val, by omega⟩) := by
  pointwise!

theorem slice2_at (D : FVec Ideal S784x512 .f32) (r : Fin 784) (l : Fin 128) :
    extractStridedSlice S784x128 ![0, 256] D slices_S784x512_o0_256_S784x128 (ix2 r l) = D (ix2 r ⟨256 + l.val, by omega⟩) := by
  pointwise!

theorem slice3_at (D : FVec Ideal S784x512 .f32) (r : Fin 784) (l : Fin 128) :
    extractStridedSlice S784x128 ![0, 384] D slices_S784x512_o0_384_S784x128 (ix2 r l) = D (ix2 r ⟨384 + l.val, by omega⟩) := by
  pointwise!

/-- The family continued by plus infinity. -/
def fpad {N : ℕ} (f : Fin N → EReal) (n : ℕ) : EReal := if h : n < N then f ⟨n, h⟩ else ⊤

theorem fpad_lt {N : ℕ} (f : Fin N → EReal) (n : ℕ) (h : n < N) : fpad f n = f ⟨n, h⟩ := dif_pos h

/-- One lane's values, in the order of insertion. -/
def vals (f : Fin 3136 → EReal) (l : Fin 128) : List EReal := (List.range 25).map fun s => fpad f (128 * s + l.val)

theorem at3_tile (T : Tri) (D : FVec Ideal S784x512 .f32) (f : Fin 3136 → EReal) (r : Fin 784) (l : Fin 128) (t : ℕ)
    (hD : ∀ k : Fin 512, D (ix2 r k) = fpad f (512 * t + k.val)) :
    at3 (tileV T D) (ix2 r l) = ins (ins (ins (ins (at3 T (ix2 r l)) (fpad f (128 * (4 * t) + l.val))) (fpad f (128 * (4 * t + 1) + l.val)))
      (fpad f (128 * (4 * t + 2) + l.val))) (fpad f (128 * (4 * t + 3) + l.val)) := by
  unfold tileV
  rw [at3_ins, at3_ins, at3_ins, at3_ins, slice0_at, slice1_at, slice2_at, slice3_at, hD, hD, hD, hD]
  simp only [show 512 * t + l.val = 128 * (4 * t) + l.val by omega, show 512 * t + (128 + l.val) = 128 * (4 * t + 1) + l.val by omega,
    show 512 * t + (256 + l.val) = 128 * (4 * t + 2) + l.val by omega, show 512 * t + (384 + l.val) = 128 * (4 * t + 3) + l.val by omega]

/-- Every lane's registers after the seven tiles. -/
theorem rowTri_all (D : Fin 6 → FVec Ideal S784x512 .f32) (L : Reg) (f : Fin 3136 → EReal) (r : Fin 784)
    (hD : ∀ (t : Fin 6) (k : Fin 512), D t (ix2 r k) = fpad f (512 * t.val + k.val))
    (hL : ∀ l : Fin 128, L (ix2 r l) = fpad f (3072 + l.val)) (l : Fin 128) :
    rowTri (insV (tileV (tileV (tileV (tileV (tileV (tileV startV (D 0)) (D 1)) (D 2)) (D 3)) (D 4)) (D 5)) L) r l = insAll (vals f l) := by
  show at3 _ (ix2 r l) = _
  rw [at3_ins, at3_tile _ _ f r l 5 (hD 5), at3_tile _ _ f r l 4 (hD 4), at3_tile _ _ f r l 3 (hD 3), at3_tile _ _ f r l 2 (hD 2),
    at3_tile _ _ f r l 1 (hD 1), at3_tile _ _ f r l 0 (hD 0), at3_start, hL]
  rfl

theorem cntL_vals (P : EReal → Prop) (f : Fin 3136 → EReal) (l : Fin 128) :
    cntL P (vals f l) = ∑ s : Fin 25, if P (fpad f (128 * s.val + l.val)) then 1 else 0 := by
  unfold cntL vals
  rw [List.map_map, ← Finset.sum_range (fun s => if P (fpad f (128 * s + l.val)) then 1 else 0)]
  rfl

theorem cnt_vals (P : EReal → Prop) (hP : Low P) (f : Fin 3136 → EReal) : ∑ l, cntL P (vals f l) = cnt P f := by
  simp only [cntL_vals]
  rw [Finset.sum_comm, ← Fintype.sum_prod_type']
  have h1 : (∑ x : Fin 25 × Fin 128, if P (fpad f (128 * x.1.val + x.2.val)) then 1 else 0)
      = ∑ n : Fin (25 * 128), if P (fpad f n.val) then 1 else 0 := by
    rw [← (finProdFinEquiv (m := 25) (n := 128)).sum_comp]
    refine Finset.sum_congr rfl fun x _ => ?_
    have : (finProdFinEquiv x : Fin (25 * 128)).val = 128 * x.1.val + x.2.val := by
      simp [finProdFinEquiv]; omega
    rw [this]
  rw [h1]
  have h2 : (∑ n : Fin (25 * 128), if P (fpad f n.val) then 1 else 0) = ∑ n : Fin (3136 + 64), if P (fpad f n.val) then 1 else 0 := rfl
  rw [h2, Fin.sum_univ_add, cnt]
  have h3 : (∑ i : Fin 64, if P (fpad f (Fin.natAdd 3136 i).val) then 1 else 0) = 0 := by
    refine Finset.sum_eq_zero fun i _ => if_neg ?_
    have : fpad f (Fin.natAdd 3136 i).val = ⊤ := dif_neg (by simp)
    rw [this]; exact hP.top
  rw [h3, add_zero]
  refine Finset.sum_congr rfl fun i _ => ?_
  have : fpad f (Fin.castAdd 64 i).val = f i := dif_pos i.isLt
  rw [this]

/-- One row of the whole search: the score of the values of rank 0, 1 and 2. -/
theorem search (feat : FVec Ideal S784x1 .f32) (D : Fin 6 → FVec Ideal S784x512 .f32) (L : Reg) (f : Fin 3136 → EReal) (hf : ∀ i, f i < ⊤)
    (r : Fin 784) (hD : ∀ (t : Fin 6) (k : Fin 512), D t (ix2 r k) = fpad f (512 * t.val + k.val))
    (hL : ∀ l : Fin 128, L (ix2 r l) = fpad f (3072 + l.val)) :
    ∃ m0 m1 m2, IsKth 0 f m0 ∧ IsKth 1 f m1 ∧ IsKth 2 f m2
      ∧ drawV feat (insV (tileV (tileV (tileV (tileV (tileV (tileV startV (D 0)) (D 1)) (D 2)) (D 3)) (D 4)) (D 5)) L) (ix2 r 0)
        = score (feat (ix2 r 0)) m0 m1 m2 := by
  obtain ⟨i, j, hi, hj, e⟩ := drawV_at feat (insV (tileV (tileV (tileV (tileV (tileV (tileV startV (D 0)) (D 1)) (D 2)) (D 3)) (D 4)) (D 5)) L) r
  obtain ⟨k0, k1, k2⟩ := drawn f (by norm_num) hf (vals f) (fun P hP => cnt_vals P hP f) _ (rowTri_all D L f r hD hL) i j hi hj
  exact ⟨_, _, _, k0, k1, k2, e⟩

end Cert.Score

end
-- ==== Proof.Score.Block.lean ====
/- What one grid point stores, at one row: the score drawn from the three least half distances of the row. The terms are
   those the body leaves, over the loads it makes. -/
module

public import proofs.«01_k».proof.Proof.Score.Search

@[expose] public section

set_option maxRecDepth 16384

noncomputable section

namespace Cert.Score

open Idealize.ShloMosaic
open Cert.KernelIdeal Cert.KernelIdeal.Gen

section reads

variable (v8 : Vec Ideal S1x784x256 .bf16) (v10 : Vec Ideal S784x1024 .bf16) (v13 : Vec Ideal S1280x1792 .bf16) (v15 : Vec Ideal S1x1792 .f32)

/-- The row's features: the columns of the left block against the upper rows of the right one, plus the bias. -/
theorem phi_at (r : Fin 784) (o : Fin 1792) : k0_pay14 v8 v10 v13 v15 (ix2 r o)
    = (∑ x : Fin 256, v8 (ix3 0 r x) * v13 (ix2 ⟨x.val, by omega⟩ o) + ∑ x : Fin 1024, v10 (ix2 r x) * v13 (ix2 ⟨256 + x.val, by omega⟩ o)
      + v15 (ix2 0 o) : EReal) := by
  pointwise [k0_pay14]

theorem feat_at (r : Fin 784) : k0_pay15 v8 v10 v13 v15 (ix2 r 0)
    = (∑ o : Fin 1792, k0_pay14 v8 v10 v13 v15 (ix2 r o) * k0_pay14 v8 v10 v13 v15 (ix2 r o) : EReal) := by
  pointwise [k0_pay15]

theorem twice_at (r : Fin 784) (o : Fin 1792) : k0_pay16 v8 v10 v13 v15 (ix2 r o)
    = (Ideal.ofBits .f32 1073741824#32 * k0_pay14 v8 v10 v13 v15 (ix2 r o) : EReal) := by
  pointwise [k0_pay16]

theorem first_at (c1 : Vec Ideal S1x512 .f32) (m1 : Vec Ideal S1792x512 .bf16) (r : Fin 784) (k : Fin 512) :
    k0_pay18 v8 v10 v13 v15 c1 m1 (ix2 r k)
      = (c1 (ix2 0 k) - ∑ x : Fin 1792, k0_pay16 v8 v10 v13 v15 (ix2 r x) * m1 (ix2 x k) : EReal) := by
  pointwise [k0_pay18]

end reads

theorem dist_at (q : FVec Ideal S784x1792 .bf16) (c1 : Vec Ideal S1x512 .f32) (m1 : Vec Ideal S1792x512 .bf16) (r : Fin 784) (k : Fin 512) :
    distV q c1 m1 (ix2 r k) = (c1 (ix2 0 k) - ∑ x : Fin 1792, q (ix2 r x) * m1 (ix2 x k) : EReal) := by
  pointwise [k0_pay35]

theorem last_at (q : FVec Ideal S784x1792 .bf16) (c1 : Vec Ideal S1x64 .f32) (m1 : Vec Ideal S1792x64 .bf16) (r : Fin 784) (k : Fin 128) :
    lastV q c1 m1 (ix2 r k)
      = (if h : k.val < 64 then c1 (ix2 0 ⟨k.val, h⟩) - ∑ x : Fin 1792, q (ix2 r x) * m1 (ix2 x ⟨k.val, h⟩) else ⊤ : EReal) := by
  pointwise [k0_pay124]
  rfl

theorem norm512_at (m1 : Vec Ideal S1792x512 .bf16) (k : Fin 512) :
    k0_pay2 m1 (ix2 0 k) = (∑ x : Fin 1792, m1 (ix2 x k) * m1 (ix2 x k) : EReal) := by
  pointwise [k0_pay2]

theorem norm64_at (m1 : Vec Ideal S1792x64 .bf16) (k : Fin 64) :
    k0_pay8 m1 (ix2 0 k) = (∑ x : Fin 1792, m1 (ix2 x k) * m1 (ix2 x k) : EReal) := by
  pointwise [k0_pay8]

theorem mid_at (a : Vec Ideal S1x784x512 .bf16) (b : Vec Ideal S512x1792 .bf16) (r : Fin 784) (o : Fin 1792) :
    k0_pay12 a b (ix2 r o) = (∑ x : Fin 512, a (ix3 0 r x) * b (ix2 x o) : EReal) := by
  pointwise [k0_pay12]

theorem coarse_at (a : Vec Ideal S1x224x1024 .bf16) (b : Vec Ideal S1024x1792 .bf16) (r : Fin 224) (o : Fin 1792) :
    k0_pay13 a b (ix2 r o) = (∑ x : Fin 1024, a (ix3 0 r x) * b (ix2 x o) : EReal) := by
  pointwise [k0_pay13]

theorem coord_at (a : FVec Ideal S2x1792 .bf16) (b : Ideal .bf16) (r : Fin 16) (o : Fin 1792) :
    k0_pay11 a b (ix2 r o) = (if h : r.val < 2 then a (ix2 ⟨r.val, h⟩ o) else b : EReal) := by
  pointwise [k0_pay11]

/-- The last part over three registers that are known to be `T`. -/
theorem draw_rest (q : FVec Ideal S784x1792 .bf16) (D : FVec Ideal S784x512 .f32) (feat : FVec Ideal S784x1 .f32)
    (c7 : Vec Ideal S1x64 .f32) (m7 : Vec Ideal S1792x64 .bf16) {T : Tri} {a b e : Reg} (h : (a, b, e) = T) :
    k0_pay1 feat laneNo (k0_pay128 q D a c7 m7) (k0_pay130 q D a b c7 m7) (k0_pay131 q D a b e c7 m7)
      (k0_pay132 q D a b c7 m7) (k0_pay133 q D a b c7 m7) k0_pay134
      = shapeCast S1x784x1 (drawV feat (restV q T D c7 m7)) shapeCasts_S784x1_S1x784x1 := by
  subst h
  exact part7 q (a, b, e) D c7 m7 feat

section chain

variable (q : FVec Ideal S784x1792 .bf16) (v82 v84 v85 : Reg) (feat : FVec Ideal S784x1 .f32)
  (c2 c3 c4 c5 : Vec Ideal S1x512 .f32) (m2 m3 m4 m5 : Vec Ideal S1792x512 .bf16) (c6 : Vec Ideal S1x64 .f32) (m6 : Vec Ideal S1792x64 .bf16)

/-- The stored block from the third tile on, over the three registers the first two tiles leave. -/
theorem chain :
    k0_pay1 feat laneNo
      (k0_pay128 q (k0_pay106 q c5 m5) (k0_pay109 q (k0_pay70 q c3 m3) (k0_pay82 q v82 c2 m2 c3 m3) c4 m4 c5 m5) c6 m6)
      (k0_pay130 q (k0_pay106 q c5 m5) (k0_pay109 q (k0_pay70 q c3 m3) (k0_pay82 q v82 c2 m2 c3 m3) c4 m4 c5 m5)
        (k0_pay110 q (k0_pay70 q c3 m3) (k0_pay78 q v82 v84 c2 m2 c3 m3) (k0_pay81 q v82 c2 m2 c3 m3) (k0_pay82 q v82 c2 m2 c3 m3) c4 m4 c5 m5) c6 m6)
      (k0_pay131 q (k0_pay106 q c5 m5) (k0_pay109 q (k0_pay70 q c3 m3) (k0_pay82 q v82 c2 m2 c3 m3) c4 m4 c5 m5)
        (k0_pay110 q (k0_pay70 q c3 m3) (k0_pay78 q v82 v84 c2 m2 c3 m3) (k0_pay81 q v82 c2 m2 c3 m3) (k0_pay82 q v82 c2 m2 c3 m3) c4 m4 c5 m5)
        (k0_pay111 q (k0_pay70 q c3 m3) (k0_pay78 q v82 v84 c2 m2 c3 m3) (k0_pay79 q v82 v84 v85 c2 m2 c3 m3) (k0_pay81 q v82 c2 m2 c3 m3)
          (k0_pay82 q v82 c2 m2 c3 m3) (k0_pay83 q v82 v84 c2 m2 c3 m3) c4 m4 c5 m5) c6 m6)
      (k0_pay132 q (k0_pay106 q c5 m5) (k0_pay109 q (k0_pay70 q c3 m3) (k0_pay82 q v82 c2 m2 c3 m3) c4 m4 c5 m5)
        (k0_pay110 q (k0_pay70 q c3 m3) (k0_pay78 q v82 v84 c2 m2 c3 m3) (k0_pay81 q v82 c2 m2 c3 m3) (k0_pay82 q v82 c2 m2 c3 m3) c4 m4 c5 m5) c6 m6)
      (k0_pay133 q (k0_pay106 q c5 m5) (k0_pay109 q (k0_pay70 q c3 m3) (k0_pay82 q v82 c2 m2 c3 m3) c4 m4 c5 m5)
        (k0_pay110 q (k0_pay70 q c3 m3) (k0_pay78 q v82 v84 c2 m2 c3 m3) (k0_pay81 q v82 c2 m2 c3 m3) (k0_pay82 q v82 c2 m2 c3 m3) c4 m4 c5 m5) c6 m6)
      k0_pay134
    = shapeCast S1x784x1 (drawV feat (insV (tileV (tileV (tileV (tileV (v82, v84, v85) (distV q c2 m2)) (distV q c3 m3)) (distV q c4 m4)) (distV q c5 m5))
        (lastV q c6 m6))) shapeCasts_S784x1_S1x784x1 := by
  have h5 := part5 q (v82, v84, v85) c2 c3 m2 m3
  have h6 := part6 q c4 c5 m4 m5 (k0_pay70 q c3 m3) (k0_pay78 q v82 v84 c2 m2 c3 m3) (k0_pay79 q v82 v84 v85 c2 m2 c3 m3)
    (k0_pay81 q v82 c2 m2 c3 m3) (k0_pay82 q v82 c2 m2 c3 m3) (k0_pay83 q v82 v84 c2 m2 c3 m3)
  rw [h5] at h6
  exact draw_rest q (k0_pay106 q c5 m5) feat c6 m6 h6

end chain

/-- `z` is the score of the three least values of `f`. -/
def Scores (f : Fin 3136 → EReal) (feat z : EReal) : Prop :=
  ∃ m0 m1 m2, IsKth 0 f m0 ∧ IsKth 1 f m1 ∧ IsKth 2 f m2 ∧ z = score feat m0 m1 m2

section whole

variable (v8 : Vec Ideal S1x784x256 .bf16) (v10 : Vec Ideal S784x1024 .bf16) (v13 : Vec Ideal S1280x1792 .bf16) (v15 : Vec Ideal S1x1792 .f32)
  (c0 c1 c2 c3 c4 c5 : Vec Ideal S1x512 .f32) (m0 m1 m2 m3 m4 m5 : Vec Ideal S1792x512 .bf16) (c6 : Vec Ideal S1x64 .f32) (m6 : Vec Ideal S1792x64 .bf16)

/-- The whole stored block at row `r`, once every tile is known to hold its part of the centre norms and of the centres. -/
theorem block_scores (cent : Fin 3136 → EReal) (mb : Fin 1792 → Fin 3136 → EReal) (r : Fin 784)
    (hf : ∀ l, cent l - ∑ x : Fin 1792, k0_pay16 v8 v10 v13 v15 (ix2 r x) * mb x l < (⊤ : EReal))
    (hc0 : ∀ (k : Fin 512) (h : 0 + k.val < 3136), c0 (ix2 0 k) = cent ⟨0 + k.val, h⟩) (hm0 : ∀ x (k : Fin 512) (h : 0 + k.val < 3136), m0 (ix2 x k) = mb x ⟨0 + k.val, h⟩)
    (hc1 : ∀ (k : Fin 512) (h : 512 + k.val < 3136), c1 (ix2 0 k) = cent ⟨512 + k.val, h⟩) (hm1 : ∀ x (k : Fin 512) (h : 512 + k.val < 3136), m1 (ix2 x k) = mb x ⟨512 + k.val, h⟩)
    (hc2 : ∀ (k : Fin 512) (h : 1024 + k.val < 3136), c2 (ix2 0 k) = cent ⟨1024 + k.val, h⟩) (hm2 : ∀ x (k : Fin 512) (h : 1024 + k.val < 3136), m2 (ix2 x k) = mb x ⟨1024 + k.val, h⟩)
    (hc3 : ∀ (k : Fin 512) (h : 1536 + k.val < 3136), c3 (ix2 0 k) = cent ⟨1536 + k.val, h⟩) (hm3 : ∀ x (k : Fin 512) (h : 1536 + k.val < 3136), m3 (ix2 x k) = mb x ⟨1536 + k.val, h⟩)
    (hc4 : ∀ (k : Fin 512) (h : 2048 + k.val < 3136), c4 (ix2 0 k) = cent ⟨2048 + k.val, h⟩) (hm4 : ∀ x (k : Fin 512) (h : 2048 + k.val < 3136), m4 (ix2 x k) = mb x ⟨2048 + k.val, h⟩)
    (hc5 : ∀ (k : Fin 512) (h : 2560 + k.val < 3136), c5 (ix2 0 k) = cent ⟨2560 + k.val, h⟩) (hm5 : ∀ x (k : Fin 512) (h : 2560 + k.val < 3136), m5 (ix2 x k) = mb x ⟨2560 + k.val, h⟩)
    (hc6 : ∀ (k : Fin 64) (h : 3072 + k.val < 3136), c6 (ix2 0 k) = cent ⟨3072 + k.val, h⟩) (hm6 : ∀ x (k : Fin 64) (h : 3072 + k.val < 3136), m6 (ix2 x k) = mb x ⟨3072 + k.val, h⟩) :
    Scores (fun l => cent l - ∑ x : Fin 1792, k0_pay16 v8 v10 v13 v15 (ix2 r x) * mb x l) (k0_pay15 v8 v10 v13 v15 (ix2 r 0))
      (k0_pay1 (k0_pay15 v8 v10 v13 v15) laneNo
      (k0_pay128 (k0_pay16 v8 v10 v13 v15) (k0_pay106 (k0_pay16 v8 v10 v13 v15) c5 m5) (k0_pay109 (k0_pay16 v8 v10 v13 v15) (k0_pay70 (k0_pay16 v8 v10 v13 v15) c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5) c6 m6)
      (k0_pay130 (k0_pay16 v8 v10 v13 v15) (k0_pay106 (k0_pay16 v8 v10 v13 v15) c5 m5) (k0_pay109 (k0_pay16 v8 v10 v13 v15) (k0_pay70 (k0_pay16 v8 v10 v13 v15) c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5)
        (k0_pay110 (k0_pay16 v8 v10 v13 v15) (k0_pay70 (k0_pay16 v8 v10 v13 v15) c3 m3) (k0_pay78 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) c2 m2 c3 m3) (k0_pay81 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5) c6 m6)
      (k0_pay131 (k0_pay16 v8 v10 v13 v15) (k0_pay106 (k0_pay16 v8 v10 v13 v15) c5 m5) (k0_pay109 (k0_pay16 v8 v10 v13 v15) (k0_pay70 (k0_pay16 v8 v10 v13 v15) c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5)
        (k0_pay110 (k0_pay16 v8 v10 v13 v15) (k0_pay70 (k0_pay16 v8 v10 v13 v15) c3 m3) (k0_pay78 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) c2 m2 c3 m3) (k0_pay81 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5)
        (k0_pay111 (k0_pay16 v8 v10 v13 v15) (k0_pay70 (k0_pay16 v8 v10 v13 v15) c3 m3) (k0_pay78 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) c2 m2 c3 m3) (k0_pay79 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) (k0_pay52 (k0_pay16 v8 v10 v13 v15) (k0_pay17 (F := Ideal)) (k0_pay18 v8 v10 v13 v15 c0 m0) (k0_pay19 v8 v10 v13 v15 c0 m0) c1 m1) c2 m2 c3 m3) (k0_pay81 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3)
          (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) (k0_pay83 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) c2 m2 c3 m3) c4 m4 c5 m5) c6 m6)
      (k0_pay132 (k0_pay16 v8 v10 v13 v15) (k0_pay106 (k0_pay16 v8 v10 v13 v15) c5 m5) (k0_pay109 (k0_pay16 v8 v10 v13 v15) (k0_pay70 (k0_pay16 v8 v10 v13 v15) c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5)
        (k0_pay110 (k0_pay16 v8 v10 v13 v15) (k0_pay70 (k0_pay16 v8 v10 v13 v15) c3 m3) (k0_pay78 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) c2 m2 c3 m3) (k0_pay81 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5) c6 m6)
      (k0_pay133 (k0_pay16 v8 v10 v13 v15) (k0_pay106 (k0_pay16 v8 v10 v13 v15) c5 m5) (k0_pay109 (k0_pay16 v8 v10 v13 v15) (k0_pay70 (k0_pay16 v8 v10 v13 v15) c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5)
        (k0_pay110 (k0_pay16 v8 v10 v13 v15) (k0_pay70 (k0_pay16 v8 v10 v13 v15) c3 m3) (k0_pay78 (k0_pay16 v8 v10 v13 v15) (k0_pay50 (k0_pay16 v8 v10 v13 v15) (k0_pay17 (F := Ideal)) (k0_pay18 v8 v10 v13 v15 c0 m0) (k0_pay19 v8 v10 v13 v15 c0 m0) c1 m1) (k0_pay51 (k0_pay16 v8 v10 v13 v15) (k0_pay17 (F := Ideal)) (k0_pay18 v8 v10 v13 v15 c0 m0) (k0_pay19 v8 v10 v13 v15 c0 m0) c1 m1) c2 m2 c3 m3) (k0_pay81 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) (k0_pay82 (k0_pay16 v8 v10 v13 v15) (k0_pay50 (k0_pay16 v8 v10 v13 v15) (k0_pay17 (F := Ideal)) (k0_pay18 v8 v10 v13 v15 c0 m0) (k0_pay19 v8 v10 v13 v15 c0 m0) c1 m1) c2 m2 c3 m3) c4 m4 c5 m5) c6 m6)
      k0_pay134
        (ix3 0 r 0)) := by
  have tile : ∀ (t : Fin 6) (c : Vec Ideal S1x512 .f32) (m : Vec Ideal S1792x512 .bf16)
      (hc : ∀ (k : Fin 512) (h : 512 * t.val + k.val < 3136), c (ix2 0 k) = cent ⟨512 * t.val + k.val, h⟩)
      (hm : ∀ x (k : Fin 512) (h : 512 * t.val + k.val < 3136), m (ix2 x k) = mb x ⟨512 * t.val + k.val, h⟩) (k : Fin 512),
      (c (ix2 0 k) - ∑ x : Fin 1792, k0_pay16 v8 v10 v13 v15 (ix2 r x) * m (ix2 x k) : EReal)
        = fpad (fun l => cent l - ∑ x : Fin 1792, k0_pay16 v8 v10 v13 v15 (ix2 r x) * mb x l) (512 * t.val + k.val) := by
    intro t c m hc hm k
    have hk : 512 * t.val + k.val < 3136 := by have := t.isLt; have := k.isLt; omega
    rw [fpad_lt _ _ hk, hc k hk]
    refine congrArg (fun z => cent _ - z) (Finset.sum_congr rfl fun x _ => ?_)
    rw [hm x k hk]
  rw [chain]
  have h4 := part4 (k0_pay16 v8 v10 v13 v15) c1 m1 (k0_pay18 v8 v10 v13 v15 c0 m0)
  have e19 : k0_pay19 v8 v10 v13 v15 c0 m0 = extractStridedSlice S784x128 ![0, 0] (k0_pay18 v8 v10 v13 v15 c0 m0) slices_S784x512_o0_0_S784x128 := rfl
  rw [e19, h4]
  obtain ⟨a0, a1, a2, b0, b1, b2, e⟩ := search (k0_pay15 v8 v10 v13 v15)
    ![k0_pay18 v8 v10 v13 v15 c0 m0, distV (k0_pay16 v8 v10 v13 v15) c1 m1, distV (k0_pay16 v8 v10 v13 v15) c2 m2,
      distV (k0_pay16 v8 v10 v13 v15) c3 m3, distV (k0_pay16 v8 v10 v13 v15) c4 m4, distV (k0_pay16 v8 v10 v13 v15) c5 m5]
    (lastV (k0_pay16 v8 v10 v13 v15) c6 m6)
    (fun l => cent l - ∑ x : Fin 1792, k0_pay16 v8 v10 v13 v15 (ix2 r x) * mb x l) hf r
    (by
      intro t k
      fin_cases t
      · exact (first_at v8 v10 v13 v15 c0 m0 r k).trans (tile 0 c0 m0 (by simpa using hc0) (by simpa using hm0) k)
      · exact (dist_at _ c1 m1 r k).trans (tile 1 c1 m1 hc1 hm1 k)
      · exact (dist_at _ c2 m2 r k).trans (tile 2 c2 m2 hc2 hm2 k)
      · exact (dist_at _ c3 m3 r k).trans (tile 3 c3 m3 hc3 hm3 k)
      · exact (dist_at _ c4 m4 r k).trans (tile 4 c4 m4 hc4 hm4 k)
      · exact (dist_at _ c5 m5 r k).trans (tile 5 c5 m5 hc5 hm5 k))
    (by
      intro l
      rw [last_at]
      by_cases h : l.val < 64
      · have hk : 3072 + l.val < 3136 := by omega
        rw [dif_pos h, fpad_lt _ _ hk, hc6 ⟨l.val, h⟩ hk]
        refine congrArg (fun z => cent _ - z) (Finset.sum_congr rfl fun x _ => ?_)
        rw [hm6 x ⟨l.val, h⟩ hk]
      · rw [dif_neg h]
        unfold fpad
        rw [dif_neg (by omega)])
  refine ⟨a0, a1, a2, b0, b1, b2, ?_⟩
  rw [← e]
  pointwise!

end whole

end Cert.Score

end
-- ==== Proof.Score.Blocks.lean ====
/- The blocks the launch hands to a grid point, read off the arrays before the launch: point `t` works on image `t / 4` and
   on the rows from `784 * (t % 4)`. -/
module

public import proofs.«01_k».proof.Proof.Gen.KernelIdeal.Frame
public import Idealize.ShloMosaic.Lib.Pointwise
public import Idealize.ShloMosaic.Lib.ValueIdx
public import Idealize.ShloMosaic.Lib.Pipeline.ValueKit

@[expose] public section

set_option maxRecDepth 16384

noncomputable section

namespace Cert.Score

open Idealize.ShloMosaic
open Cert.KernelIdeal Cert.KernelIdeal.Gen

variable (m : (ℓ : Loc nD τ sig) → Buf (Elt Ideal) ℓ) (c : Dev nD)

theorem idx : ∀ t : Fin cfg0.N, win0_0.index t = ![t.val / 4, t.val % 4, 0] ∧ win0_1.index t = ![t.val % 4, 0]
    ∧ win0_2.index t = ![t.val / 4, 0, 0] ∧ win0_3.index t = ![t.val / 4, 0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

theorem points (t : Fin cfg0.N) : t.val < 16 := lt_of_lt_of_eq t.isLt N_0

/-- The image a point works on. -/
def image (t : Fin cfg0.N) : Fin 4 := ⟨t.val / 4, by have := points t; omega⟩

/-- The position a point's row `r` has among the 3136 of its image. -/
def place (t : Fin cfg0.N) (r : Fin 784) : Fin 3136 := ⟨784 * (t.val % 4) + r.val, by have := r.isLt; omega⟩

theorem blk0 (t : Fin cfg0.N) (r : Fin 784) (x : Fin 256) :
    (iblk m c 0 t : Vec Ideal S1x784x256 .bf16) (ix3 0 r x) = (V m c main_call0_v8 : FVec Ideal S4x3136x256 .bf16) (ix3 (image t) (place t r) x) := by
  blk_ext [iblk, idx t, image, place]

theorem blk1 (t : Fin cfg0.N) (r : Fin 784) (x : Fin 1024) :
    (iblk m c 1 t : Vec Ideal S784x1024 .bf16) (ix2 r x) = (V m c main_call0_v111 : FVec Ideal S3136x1024 .bf16) (ix2 (place t r) x) := by
  blk_ext [iblk, idx t, image, place]

theorem blk2 (t : Fin cfg0.N) (r : Fin 784) (x : Fin 512) :
    (iblk m c 2 t : Vec Ideal S1x784x512 .bf16) (ix3 0 r x) = (V m c main_call0_v11 : FVec Ideal S4x784x512 .bf16) (ix3 (image t) r x) := by
  blk_ext [iblk, idx t, image, place]

theorem blk3 (t : Fin cfg0.N) (r : Fin 224) (x : Fin 1024) :
    (iblk m c 3 t : Vec Ideal S1x224x1024 .bf16) (ix3 0 r x) = (V m c main_call0_v15 : FVec Ideal S4x224x1024 .bf16) (ix3 (image t) r x) := by
  blk_ext [iblk, idx t, image, place]

theorem blk4 (t : Fin cfg0.N) (r : Fin 256) (x : Fin 1792) :
    (iblk m c 4 t : Vec Ideal S256x1792 .bf16) (ix2 r x) = (V m c main_call0_v114 : FVec Ideal S256x1792 .bf16) (ix2 r x) := by
  blk_ext [iblk, idx t, image, place]

theorem blk5 (t : Fin cfg0.N) (r : Fin 512) (x : Fin 1792) :
    (iblk m c 5 t : Vec Ideal S512x1792 .bf16) (ix2 r x) = (V m c main_call0_v116 : FVec Ideal S512x1792 .bf16) (ix2 r x) := by
  blk_ext [iblk, idx t, image, place]

theorem blk6 (t : Fin cfg0.N) (r : Fin 1024) (x : Fin 1792) :
    (iblk m c 6 t : Vec Ideal S1024x1792 .bf16) (ix2 r x) = (V m c main_call0_v118 : FVec Ideal S1024x1792 .bf16) (ix2 r x) := by
  blk_ext [iblk, idx t, image, place]

theorem blk7 (t : Fin cfg0.N) (r : Fin 2) (x : Fin 1792) :
    (iblk m c 7 t : Vec Ideal S2x1792 .bf16) (ix2 r x) = (V m c main_call0_v120 : FVec Ideal S2x1792 .bf16) (ix2 r x) := by
  blk_ext [iblk, idx t, image, place]

theorem blk8 (t : Fin cfg0.N) (x : Fin 1792) :
    (iblk m c 8 t : Vec Ideal S1x1792 .f32) (ix2 0 x) = (V m c main_call0_v121 : FVec Ideal S1x1792 .f32) (ix2 0 x) := by
  blk_ext [iblk, idx t, image, place]

theorem blk9 (t : Fin cfg0.N) (r : Fin 1792) (x : Fin 3136) :
    (iblk m c 9 t : Vec Ideal S1792x3136 .bf16) (ix2 r x) = (V m c main_call0_v122 : FVec Ideal S1792x3136 .bf16) (ix2 r x) := by
  blk_ext [iblk, idx t, image, place]

end Cert.Score

end
-- ==== Proof.Score.Carried.lean ====
/- What the two scratch buffers hold after every grid point: the squared norms of the centres, and the right block of the
   matrix product of the image at hand. -/
module

public import proofs.«01_k».proof.Proof.Score.Block
public import proofs.«01_k».proof.Proof.Score.Blocks
public import Idealize.ShloMosaic.Lib.Pipeline.ReadBack
public import Idealize.ShloMosaic.Lib.WritesUnit

@[expose] public section

set_option maxRecDepth 16384

noncomputable section

namespace Cert.Score

open Idealize.ShloMosaic
open Cert.KernelIdeal Cert.KernelIdeal.Gen

variable (m : (ℓ : Loc nD τ sig) → Buf (Elt Ideal) ℓ) (c : Dev nD)

/-- The centres. -/
def centre (x : Fin 1792) (l : Fin 3136) : EReal := (V m c main_call0_v122 : FVec Ideal S1792x3136 .bf16) (ix2 x l)

/-- The squared norms of the centres. -/
def norms (l : Fin 3136) : EReal := ∑ x : Fin 1792, centre m c x l * centre m c x l

/-- The right block for image `b`: the weights of the fine map, then those of the two coarser maps already applied to their
    images, then those of the coordinates, then zeros. -/
def right (b : Fin 4) (s : Fin 1280) (o : Fin 1792) : EReal :=
  if h : s.val < 256 then (V m c main_call0_v114 : FVec Ideal S256x1792 .bf16) (ix2 ⟨s.val, h⟩ o)
  else if h1 : s.val < 1040 then ∑ x : Fin 512, (show FVec Ideal S4x784x512 .bf16 from V m c main_call0_v11) (ix3 b ⟨s.val - 256, by omega⟩ x)
    * (show FVec Ideal S512x1792 .bf16 from V m c main_call0_v116) (ix2 x o)
  else if h2 : s.val < 1264 then ∑ x : Fin 1024, (show FVec Ideal S4x224x1024 .bf16 from V m c main_call0_v15) (ix3 b ⟨s.val - 1040, by omega⟩ x)
    * (show FVec Ideal S1024x1792 .bf16 from V m c main_call0_v118) (ix2 x o)
  else if h3 : s.val < 1266 then (V m c main_call0_v120 : FVec Ideal S2x1792 .bf16) (ix2 ⟨s.val - 1264, by omega⟩ o)
  else Ideal.ofBits .bf16 0#16

section right

variable (b : Fin 4) (s : Fin 1280) (o : Fin 1792)

theorem right_fine (k : Fin 256) (h : s.val = 0 + k.val) :
    right m c b s o = (V m c main_call0_v114 : FVec Ideal S256x1792 .bf16) (ix2 k o) := by
  unfold right
  rw [dif_pos (by omega)]
  congr 2
  exact Fin.ext (by simpa using h)

theorem right_mid (k : Fin 784) (h : s.val = 256 + k.val) :
    right m c b s o = ∑ x : Fin 512, (show FVec Ideal S4x784x512 .bf16 from V m c main_call0_v11) (ix3 b k x)
      * (show FVec Ideal S512x1792 .bf16 from V m c main_call0_v116) (ix2 x o) := by
  have hk := k.isLt
  unfold right
  rw [dif_neg (by omega), dif_pos (by omega)]
  have e : (⟨s.val - 256, by omega⟩ : Fin 784) = k := Fin.ext (by show s.val - 256 = k.val; omega)
  rw [e]

theorem right_coarse (k : Fin 224) (h : s.val = 1040 + k.val) :
    right m c b s o = ∑ x : Fin 1024, (show FVec Ideal S4x224x1024 .bf16 from V m c main_call0_v15) (ix3 b k x)
      * (show FVec Ideal S1024x1792 .bf16 from V m c main_call0_v118) (ix2 x o) := by
  have hk := k.isLt
  unfold right
  rw [dif_neg (by omega), dif_neg (by omega), dif_pos (by omega)]
  have e : (⟨s.val - 1040, by omega⟩ : Fin 224) = k := Fin.ext (by show s.val - 1040 = k.val; omega)
  rw [e]

theorem right_tail (k : Fin 16) (h : s.val = 1264 + k.val) :
    right m c b s o = if h : k.val < 2 then (V m c main_call0_v120 : FVec Ideal S2x1792 .bf16) (ix2 ⟨k.val, h⟩ o) else Ideal.ofBits .bf16 0#16 := by
  have hk := k.isLt
  unfold right
  rw [dif_neg (by omega), dif_neg (by omega), dif_neg (by omega)]
  by_cases h2 : k.val < 2
  · rw [dif_pos (by omega), dif_pos h2]
    congr 2
    exact Fin.ext (by show s.val - 1264 = k.val; omega)
  · rw [dif_neg (by omega), dif_neg h2]

/-- Rows that no image enters are the same for every image. -/
theorem right_same (b' : Fin 4) (h : s.val < 256 ∨ 1264 ≤ s.val) : right m c b s o = right m c b' s o := by
  have hs := s.isLt
  rcases h with h | h
  · rw [right_fine m c b s o ⟨s.val, h⟩ (by simp), right_fine m c b' s o ⟨s.val, h⟩ (by simp)]
  · rw [right_tail m c b s o ⟨s.val - 1264, by omega⟩ (by show s.val = 1264 + (s.val - 1264); omega),
      right_tail m c b' s o ⟨s.val - 1264, by omega⟩ (by show s.val = 1264 + (s.val - 1264); omega)]

end right

/-- The store of the middle rows. -/
theorem store_mid (t : Fin cfg0.N) (s : Fin 1280) (o : Fin 1792) (k : Fin 784) (h : s.val = 256 + k.val) :
    k0_pay12 (F := Ideal) (iblk m c 2 t) (iblk m c 5 t) (ix2 k o) = right m c (image t) s o := by
  rw [right_mid m c _ s o k h]
  refine (mid_at _ _ k o).trans (Finset.sum_congr rfl fun x _ => ?_)
  exact congrArg₂ (fun u v : EReal => u * v) (blk2 m c t k x) (blk5 m c t x o)

/-- The store of the coarse rows. -/
theorem store_coarse (t : Fin cfg0.N) (s : Fin 1280) (o : Fin 1792) (k : Fin 224) (h : s.val = 1040 + k.val) :
    k0_pay13 (F := Ideal) (iblk m c 3 t) (iblk m c 6 t) (ix2 k o) = right m c (image t) s o := by
  rw [right_coarse m c _ s o k h]
  refine (coarse_at _ _ k o).trans (Finset.sum_congr rfl fun x _ => ?_)
  exact congrArg₂ (fun u v : EReal => u * v) (blk3 m c t k x) (blk6 m c t x o)

/-- The last store into a row of 3136 decides what it covers. -/
theorem canon_cols (n off : ℕ) (inb : ∀ a : Fin 2, (![0, off] : Fin 2 → ℕ) a + (![1, n] : Fin 2 → ℕ) a ≤ S1x3136.size a)
    (w : (⟨2, ![1, n]⟩ : Shape).Idx → Elt Ideal .f32) (L : List (View.Piece (Elt Ideal) S1x3136 .f32)) (l : Fin 3136) (z : EReal)
    (hin : ∀ k : Fin n, l.val = off + k.val → w (ix2 0 k) = z)
    (hout : l.val < off ∨ off + n ≤ l.val → View.canon L (ix2 0 l) = z) :
    View.canon ((⟨Rect.unit ![0, off] ![1, n] inb, w⟩ : View.Piece (Elt Ideal) S1x3136 .f32) :: L) (ix2 0 l) = z := by
  by_cases h : off ≤ l.val ∧ l.val < off + n
  · have e : (Rect.unit (s := S1x3136) ![0, off] ![1, n] inb).emb (ix2 0 ⟨l.val - off, by omega⟩) = ix2 0 l := by
      funext a
      fin_cases a
      · rfl
      · exact Fin.ext (by show off + 1 * (l.val - off) = l.val; omega)
    rw [← e, View.canon_cons_emb]
    exact hin ⟨l.val - off, by omega⟩ (by show l.val = off + (l.val - off); omega)
  · rw [View.canon_cons_of_not_mem]
    · exact hout (by omega)
    · intro hm
      exact h ((Rect.mem_set_unit (inb := inb)).mp hm 1)

/-- The last store into whole rows of the right block decides what it covers. -/
theorem canon_rows (n off : ℕ) (inb : ∀ a : Fin 2, (![off, 0] : Fin 2 → ℕ) a + (![n, 1792] : Fin 2 → ℕ) a ≤ S1280x1792.size a)
    (w : (⟨2, ![n, 1792]⟩ : Shape).Idx → Elt Ideal .bf16) (L : List (View.Piece (Elt Ideal) S1280x1792 .bf16)) (l : Fin 1280) (o : Fin 1792) (z : EReal)
    (hin : ∀ k : Fin n, l.val = off + k.val → w (ix2 k o) = z)
    (hout : l.val < off ∨ off + n ≤ l.val → View.canon L (ix2 l o) = z) :
    View.canon ((⟨Rect.unit ![off, 0] ![n, 1792] inb, w⟩ : View.Piece (Elt Ideal) S1280x1792 .bf16) :: L) (ix2 l o) = z := by
  by_cases h : off ≤ l.val ∧ l.val < off + n
  · have e : (Rect.unit (s := S1280x1792) ![off, 0] ![n, 1792] inb).emb (ix2 ⟨l.val - off, by omega⟩ o) = ix2 l o := by
      funext a
      fin_cases a
      · exact Fin.ext (by show off + 1 * (l.val - off) = l.val; omega)
      · exact Fin.ext (by show 0 + 1 * o.val = o.val; omega)
    rw [← e, View.canon_cons_emb]
    exact hin ⟨l.val - off, by omega⟩ (by show l.val = off + (l.val - off); omega)
  · rw [View.canon_cons_of_not_mem]
    · exact hout (by omega)
    · intro hm
      exact h ((Rect.mem_set_unit (inb := inb)).mp hm 0)

/-- Seven stores side by side fill the row with `G` when each of them stores its part of `G`. -/
theorem canon_seven (G : Fin 3136 → EReal) (w6 : (⟨2, ![1, 64]⟩ : Shape).Idx → Elt Ideal .f32) (w0 w1 w2 w3 w4 w5 : (⟨2, ![1, 512]⟩ : Shape).Idx → Elt Ideal .f32)
    (i6 : ∀ a : Fin 2, (![0, 3072] : Fin 2 → ℕ) a + (![1, 64] : Fin 2 → ℕ) a ≤ S1x3136.size a)
    (i5 : ∀ a : Fin 2, (![0, 2560] : Fin 2 → ℕ) a + (![1, 512] : Fin 2 → ℕ) a ≤ S1x3136.size a)
    (i4 : ∀ a : Fin 2, (![0, 2048] : Fin 2 → ℕ) a + (![1, 512] : Fin 2 → ℕ) a ≤ S1x3136.size a)
    (i3 : ∀ a : Fin 2, (![0, 1536] : Fin 2 → ℕ) a + (![1, 512] : Fin 2 → ℕ) a ≤ S1x3136.size a)
    (i2 : ∀ a : Fin 2, (![0, 1024] : Fin 2 → ℕ) a + (![1, 512] : Fin 2 → ℕ) a ≤ S1x3136.size a)
    (i1 : ∀ a : Fin 2, (![0, 512] : Fin 2 → ℕ) a + (![1, 512] : Fin 2 → ℕ) a ≤ S1x3136.size a)
    (i0 : ∀ a : Fin 2, (![0, 0] : Fin 2 → ℕ) a + (![1, 512] : Fin 2 → ℕ) a ≤ S1x3136.size a)
    (h6 : ∀ (k : Fin 64) (h : 3072 + k.val < 3136), w6 (ix2 0 k) = G ⟨3072 + k.val, h⟩)
    (h5 : ∀ (k : Fin 512) (h : 2560 + k.val < 3136), w5 (ix2 0 k) = G ⟨2560 + k.val, h⟩)
    (h4 : ∀ (k : Fin 512) (h : 2048 + k.val < 3136), w4 (ix2 0 k) = G ⟨2048 + k.val, h⟩)
    (h3 : ∀ (k : Fin 512) (h : 1536 + k.val < 3136), w3 (ix2 0 k) = G ⟨1536 + k.val, h⟩)
    (h2 : ∀ (k : Fin 512) (h : 1024 + k.val < 3136), w2 (ix2 0 k) = G ⟨1024 + k.val, h⟩)
    (h1 : ∀ (k : Fin 512) (h : 512 + k.val < 3136), w1 (ix2 0 k) = G ⟨512 + k.val, h⟩)
    (h0 : ∀ (k : Fin 512) (h : 0 + k.val < 3136), w0 (ix2 0 k) = G ⟨0 + k.val, h⟩) (l : Fin 3136) :
    View.canon ([⟨Rect.unit ![0, 3072] ![1, 64] i6, w6⟩, ⟨Rect.unit ![0, 2560] ![1, 512] i5, w5⟩, ⟨Rect.unit ![0, 2048] ![1, 512] i4, w4⟩,
      ⟨Rect.unit ![0, 1536] ![1, 512] i3, w3⟩, ⟨Rect.unit ![0, 1024] ![1, 512] i2, w2⟩, ⟨Rect.unit ![0, 512] ![1, 512] i1, w1⟩,
      ⟨Rect.unit ![0, 0] ![1, 512] i0, w0⟩] : List (View.Piece (Elt Ideal) S1x3136 .f32)) (ix2 0 l) = G l := by
  have hl := l.isLt
  refine canon_cols _ _ _ _ _ l _ (fun k hk => (h6 k (by omega)).trans (congrArg G (Fin.ext hk.symm))) fun o6 => ?_
  refine canon_cols _ _ _ _ _ l _ (fun k hk => (h5 k (by omega)).trans (congrArg G (Fin.ext hk.symm))) fun o5 => ?_
  refine canon_cols _ _ _ _ _ l _ (fun k hk => (h4 k (by omega)).trans (congrArg G (Fin.ext hk.symm))) fun o4 => ?_
  refine canon_cols _ _ _ _ _ l _ (fun k hk => (h3 k (by omega)).trans (congrArg G (Fin.ext hk.symm))) fun o3 => ?_
  refine canon_cols _ _ _ _ _ l _ (fun k hk => (h2 k (by omega)).trans (congrArg G (Fin.ext hk.symm))) fun o2 => ?_
  refine canon_cols _ _ _ _ _ l _ (fun k hk => (h1 k (by omega)).trans (congrArg G (Fin.ext hk.symm))) fun o1 => ?_
  refine canon_cols _ _ _ _ _ l _ (fun k hk => (h0 k (by omega)).trans (congrArg G (Fin.ext hk.symm))) fun o0 => ?_
  omega

/-- The block of centres, squared and summed column by column. -/
theorem norm_of_block (t : Fin cfg0.N) (l : Fin 3136) :
    (∑ x : Fin 1792, (show FVec Ideal S1792x3136 .bf16 from iblk m c 9 t) (ix2 x l) * (show FVec Ideal S1792x3136 .bf16 from iblk m c 9 t) (ix2 x l) : EReal)
      = norms m c l := by
  refine Finset.sum_congr rfl fun x _ => ?_
  exact congrArg (fun z : EReal => z * z) (blk9 m c t x l)

/-- The first point stores the squared norms. -/
theorem normsA (t : Fin cfg0.N) (h0 : t.val % 16 = 0) (h1 : t.val % 4 = 0) (l : Fin 3136) :
    ((outsAt0 m c t.val t.isLt).2.1 : FVec Ideal S1x3136 .f32) (ix2 0 l) = norms m c l := by
  rw [outsAt0_A m c t h0 h1]
  frame_out
  unfold norms
  refine canon_seven (norms m c) _ _ _ _ _ _ _ _ _ _ _ _ _ _ ?_ ?_ ?_ ?_ ?_ ?_ ?_ l
  all_goals
    intro k h
    refine Eq.trans ?_ (norm_of_block m c t _)
    pointwise!

theorem keptB (t : Fin cfg0.N) (h0 : ¬t.val % 16 = 0) (h1 : ¬t.val % 4 = 0) :
    (outsAt0 m c t.val t.isLt).2 = (outsAt0 m c (t.val - 1) (lt_of_le_of_lt (Nat.sub_le _ _) t.isLt)).2 := by
  rw [outsAt0_B m c t h0 h1]
  rfl

theorem keptC (t : Fin cfg0.N) (h0 : ¬t.val % 16 = 0) (h1 : t.val % 4 = 0) :
    (outsAt0 m c t.val t.isLt).2.1 = (outsAt0 m c (t.val - 1) (lt_of_le_of_lt (Nat.sub_le _ _) t.isLt)).2.1 := by
  rw [outsAt0_C m c t h0 h1]
  rfl

/-- Four stores of whole rows that are those of the right block. -/
theorem canon_four (t : Fin cfg0.N) (w1 : (⟨2, ![256, 1792]⟩ : Shape).Idx → Elt Ideal .bf16) (w4 : (⟨2, ![16, 1792]⟩ : Shape).Idx → Elt Ideal .bf16)
    (i3 : ∀ a : Fin 2, (![1040, 0] : Fin 2 → ℕ) a + (![224, 1792] : Fin 2 → ℕ) a ≤ S1280x1792.size a)
    (i2 : ∀ a : Fin 2, (![256, 0] : Fin 2 → ℕ) a + (![784, 1792] : Fin 2 → ℕ) a ≤ S1280x1792.size a)
    (i4 : ∀ a : Fin 2, (![1264, 0] : Fin 2 → ℕ) a + (![16, 1792] : Fin 2 → ℕ) a ≤ S1280x1792.size a)
    (i1 : ∀ a : Fin 2, (![0, 0] : Fin 2 → ℕ) a + (![256, 1792] : Fin 2 → ℕ) a ≤ S1280x1792.size a)
    (h1 : ∀ k o, w1 (ix2 k o) = (show FVec Ideal S256x1792 .bf16 from iblk m c 4 t) (ix2 k o))
    (h4 : ∀ (k : Fin 16) o, w4 (ix2 k o)
      = if h : k.val < 2 then (show FVec Ideal S2x1792 .bf16 from iblk m c 7 t) (ix2 ⟨k.val, h⟩ o) else Ideal.ofBits .bf16 0#16)
    (s : Fin 1280) (o : Fin 1792) :
    View.canon ([⟨Rect.unit ![1040, 0] ![224, 1792] i3, k0_pay13 (F := Ideal) (iblk m c 3 t) (iblk m c 6 t)⟩,
      ⟨Rect.unit ![256, 0] ![784, 1792] i2, k0_pay12 (F := Ideal) (iblk m c 2 t) (iblk m c 5 t)⟩, ⟨Rect.unit ![1264, 0] ![16, 1792] i4, w4⟩,
      ⟨Rect.unit ![0, 0] ![256, 1792] i1, w1⟩] : List (View.Piece (Elt Ideal) S1280x1792 .bf16)) (ix2 s o) = right m c (image t) s o := by
  have hs := s.isLt
  refine canon_rows _ _ _ _ _ s o _ (fun k hk => store_coarse m c t s o k hk) fun o3 => ?_
  refine canon_rows _ _ _ _ _ s o _ (fun k hk => store_mid m c t s o k hk) fun o2 => ?_
  refine canon_rows _ _ _ _ _ s o _ (fun k hk => ?_) fun o1 => ?_
  · rw [right_tail m c _ s o k hk, h4]
    by_cases h2 : k.val < 2
    · rw [dif_pos h2, dif_pos h2]
      exact blk7 m c t ⟨k.val, h2⟩ o
    · rw [dif_neg h2, dif_neg h2]
  refine canon_rows _ _ _ _ _ s o _ (fun k hk => ?_) fun o0 => ?_
  · rw [right_fine m c _ s o k hk, h1]
    exact blk4 m c t k o
  omega

/-- A store of whole rows over anything. -/
theorem over_rows {sg : RefSig} {κ : Kind} {sp : Space} (v : View sg κ sp S1280x1792 .bf16) (f : v.ty.Contents (Elt Ideal)) (n off : ℕ)
    (inb : ∀ a : Fin 2, (![off, 0] : Fin 2 → ℕ) a + (![n, 1792] : Fin 2 → ℕ) a ≤ S1280x1792.size a)
    (w : (⟨2, ![n, 1792]⟩ : Shape).Idx → Elt Ideal .bf16) (L : List (View.Piece (Elt Ideal) S1280x1792 .bf16)) (l : Fin 1280) (o : Fin 1792) (z : EReal)
    (hin : ∀ k : Fin n, l.val = off + k.val → w (ix2 k o) = z)
    (hout : l.val < off ∨ off + n ≤ l.val → v.read (Elt Ideal) (v.writes (Elt Ideal) f L) (ix2 l o) = z) :
    v.read (Elt Ideal) (v.writes (Elt Ideal) f ((⟨Rect.unit ![off, 0] ![n, 1792] inb, w⟩ : View.Piece (Elt Ideal) S1280x1792 .bf16) :: L)) (ix2 l o) = z := by
  by_cases h : off ≤ l.val ∧ l.val < off + n
  · rw [View.read_writes_cons_unit_of_mem v f inb w L (ix2 l o) (ix2 ⟨l.val - off, by omega⟩ o) rfl (fun a => by
      fin_cases a
      · show l.val = off + (l.val - off); omega
      · show o.val = 0 + o.val; omega)]
    exact hin ⟨l.val - off, by omega⟩ (by show l.val = off + (l.val - off); omega)
  · rw [View.read_writes_cons_unit_of_not_mem v f inb w L (ix2 l o) rfl 0 (by show l.val < off ∨ off + n ≤ l.val; omega)]
    exact hout (by omega)

/-- The stores of an image's two coarser maps over a right block of another image. -/
theorem over_two {sg : RefSig} {κ : Kind} {sp : Space} (v : View sg κ sp S1280x1792 .bf16) (f : v.ty.Contents (Elt Ideal)) (t : Fin cfg0.N)
    (i3 : ∀ a : Fin 2, (![1040, 0] : Fin 2 → ℕ) a + (![224, 1792] : Fin 2 → ℕ) a ≤ S1280x1792.size a)
    (i2 : ∀ a : Fin 2, (![256, 0] : Fin 2 → ℕ) a + (![784, 1792] : Fin 2 → ℕ) a ≤ S1280x1792.size a)
    (b : Fin 4) (hf : ∀ s o, v.read (Elt Ideal) f (ix2 s o) = right m c b s o) (s : Fin 1280) (o : Fin 1792) :
    v.read (Elt Ideal) (v.writes (Elt Ideal) f ([⟨Rect.unit ![1040, 0] ![224, 1792] i3, k0_pay13 (F := Ideal) (iblk m c 3 t) (iblk m c 6 t)⟩,
      ⟨Rect.unit ![256, 0] ![784, 1792] i2, k0_pay12 (F := Ideal) (iblk m c 2 t) (iblk m c 5 t)⟩] : List (View.Piece (Elt Ideal) S1280x1792 .bf16))) (ix2 s o)
      = right m c (image t) s o := by
  have hs := s.isLt
  refine over_rows v f _ _ _ _ _ s o _ (fun k hk => store_coarse m c t s o k hk) fun o3 => ?_
  refine over_rows v f _ _ _ _ _ s o _ (fun k hk => store_mid m c t s o k hk) fun o2 => ?_
  exact (hf s o).trans (right_same m c b s o (image t) (by omega))

/-- The four stores of the first point are the right block. -/
theorem rightA (t : Fin cfg0.N) (h0 : t.val % 16 = 0) (h1 : t.val % 4 = 0) (s : Fin 1280) (o : Fin 1792) :
    ((outsAt0 m c t.val t.isLt).2.2 : FVec Ideal S1280x1792 .bf16) (ix2 s o) = right m c (image t) s o := by
  rw [outsAt0_A m c t h0 h1]
  frame_out
  refine canon_four m c t _ _ _ _ _ _ (fun k o => ?_) (fun k o => ?_) s o
  · pointwise!
  · refine (coord_at _ _ k o).trans ?_
    pointwise!

/-- The two stores of a later image's first point over what was there. -/
theorem rightC (t : Fin cfg0.N) (h0 : ¬t.val % 16 = 0) (h1 : t.val % 4 = 0) (b : Fin 4)
    (hb : ∀ s o, ((outsAt0 m c (t.val - 1) (lt_of_le_of_lt (Nat.sub_le _ _) t.isLt)).2.2 : FVec Ideal S1280x1792 .bf16) (ix2 s o) = right m c b s o)
    (s : Fin 1280) (o : Fin 1792) :
    ((outsAt0 m c t.val t.isLt).2.2 : FVec Ideal S1280x1792 .bf16) (ix2 s o) = right m c (image t) s o := by
  rw [outsAt0_C m c t h0 h1]
  frame_out
  exact over_two m c _ _ t _ _ b (fun s o => by rw [read_unread_whole]; exact hb s o) s o

/-- What every point leaves in the two scratch buffers. -/
theorem carried : ∀ (n : ℕ) (hn : n < cfg0.N),
    (∀ l, ((outsAt0 m c n hn).2.1 : FVec Ideal S1x3136 .f32) (ix2 0 l) = norms m c l)
      ∧ ∀ s o, ((outsAt0 m c n hn).2.2 : FVec Ideal S1280x1792 .bf16) (ix2 s o) = right m c (image ⟨n, hn⟩) s o := by
  intro n
  induction n with
  | zero => exact fun hn => ⟨normsA m c ⟨0, hn⟩ rfl rfl, rightA m c ⟨0, hn⟩ rfl rfl⟩
  | succ n ih =>
    intro hn
    obtain ⟨a, b⟩ := ih (Nat.lt_of_succ_lt hn)
    have hN : n + 1 < 16 := points ⟨n + 1, hn⟩
    have h0 : ¬(n + 1) % 16 = 0 := by omega
    by_cases h1 : (n + 1) % 4 = 0
    · refine ⟨fun l => ?_, fun s o => rightC m c ⟨n + 1, hn⟩ h0 h1 _ b s o⟩
      have e := keptC m c ⟨n + 1, hn⟩ h0 h1
      exact (congrFun e (ix2 0 l)).trans (a l)
    · have e := keptB m c ⟨n + 1, hn⟩ h0 h1
      have ei : image ⟨n + 1, hn⟩ = image ⟨n, Nat.lt_of_succ_lt hn⟩ := Fin.ext (by show (n + 1) / 4 = n / 4; omega)
      rw [ei]
      exact ⟨fun l => (congrFun (congrArg Prod.fst e) (ix2 0 l)).trans (a l), fun s o => (congrFun (congrArg Prod.snd e) (ix2 s o)).trans (b s o)⟩

end Cert.Score

end
-- ==== Proof.Score.Out.lean ====
/- What every grid point stores as its block of the scores: each position's scores against the centres, for a right block
   that reads as the one of the point's image. -/
module

public import proofs.«01_k».proof.Proof.Score.Carried
public import Idealize.ShloMosaic.Lib.Pipeline.ValueKit

@[expose] public section

set_option maxRecDepth 16384

noncomputable section

namespace Cert.Score

open Idealize.ShloMosaic
open Cert.KernelIdeal Cert.KernelIdeal.Gen

variable (m : (ℓ : Loc nD τ sig) → Buf (Elt Ideal) ℓ) (c : Dev nD)

/-- `z` is the score of position `r` of the block of point `t`, for centres `mb` of squared norms `cent`. -/
def Stored (t : Fin cfg0.N) (r : Fin 784) (cent : Fin 3136 → EReal) (mb : Fin 1792 → Fin 3136 → EReal) (z : EReal) : Prop :=
  ∃ W : FVec Ideal S1280x1792 .bf16, (∀ s o, W (ix2 s o) = right m c (image t) s o)
    ∧ ((∀ l, cent l - ∑ x : Fin 1792, k0_pay16 (F := Ideal) (iblk m c 0 t) (iblk m c 1 t) W (iblk m c 8 t) (ix2 r x) * mb x l < (⊤ : EReal))
      → Scores (fun l => cent l - ∑ x : Fin 1792, k0_pay16 (F := Ideal) (iblk m c 0 t) (iblk m c 1 t) W (iblk m c 8 t) (ix2 r x) * mb x l)
        (k0_pay15 (F := Ideal) (iblk m c 0 t) (iblk m c 1 t) W (iblk m c 8 t) (ix2 r 0)) z)

/-- Some columns of a row of norms. -/
theorem tile_norm (X : Vec Ideal S1x3136 .f32) (off n : ℕ) (inb : ∀ a, (![0, off] : Fin 2 → ℕ) a + (![1, n] : Fin 2 → ℕ) a ≤ S1x3136.size a)
    (k : Fin n) (h : off + k.val < 3136) : View.ld X (Rect.unit ![0, off] ![1, n] inb) (ix2 0 k) = X (ix2 0 ⟨off + k.val, h⟩) := by
  refine congrArg X (funext fun a => Fin.ext ?_)
  fin_cases a
  · rfl
  · show off + 1 * k.val = off + k.val
    omega

/-- Some columns of the centres. -/
theorem tile_centre (X : Vec Ideal S1792x3136 .bf16) (off n : ℕ)
    (inb : ∀ a : Fin 2, (![0, off] : Fin 2 → ℕ) a + (![1792, n] : Fin 2 → ℕ) a ≤ S1792x3136.size a)
    (x : Fin 1792) (k : Fin n) (h : off + k.val < 3136) : View.ld X (Rect.unit ![0, off] ![1792, n] inb) (ix2 x k) = X (ix2 x ⟨off + k.val, h⟩) := by
  refine congrArg X (funext fun a => Fin.ext ?_)
  fin_cases a
  · show 0 + 1 * x.val = x.val
    omega
  · show off + 1 * k.val = off + k.val
    omega

variable (cent : Fin 3136 → EReal) (mb : Fin 1792 → Fin 3136 → EReal)

theorem outB (t : Fin cfg0.N) (h0 : ¬t.val % 16 = 0) (h1 : ¬t.val % 4 = 0) (r : Fin 784)
    (hcent : ∀ l, ((outsAt0 m c (t.val - 1) (lt_of_le_of_lt (Nat.sub_le _ _) t.isLt)).2.1 : FVec Ideal S1x3136 .f32) (ix2 0 l) = cent l)
    (hW : ∀ s o, ((outsAt0 m c (t.val - 1) (lt_of_le_of_lt (Nat.sub_le _ _) t.isLt)).2.2 : FVec Ideal S1280x1792 .bf16) (ix2 s o) = right m c (image t) s o)
    (hmb : ∀ x l, (iblk m c 9 t : Vec Ideal S1792x3136 .bf16) (ix2 x l) = mb x l) :
    Stored m c t r cent mb ((outsAt0 m c t.val t.isLt).1 (ix3 0 r 0)) := by
  unfold Stored
  rw [outsAt0_B m c t h0 h1]
  frame_out
  simp only [read_unread_whole]
  generalize outsAt0 m c (t.val - 1) (lt_of_le_of_lt (Nat.sub_le _ _) t.isLt) = S at *
  refine ⟨S.2.2, hW, fun hf => ?_⟩
  refine block_scores (iblk m c 0 t) (iblk m c 1 t) S.2.2 (iblk m c 8 t) _ _ _ _ _ _ _ _ _ _ _ _ _ _ cent mb r hf ?_ ?_ ?_ ?_ ?_ ?_ ?_ ?_ ?_ ?_ ?_ ?_ ?_ ?_
  all_goals first
    | (intro k h; exact (tile_norm _ _ _ _ _ _).trans (hcent _))
    | (intro x k h; exact (tile_centre _ _ _ _ _ _ _).trans (hmb _ _))

theorem outC (t : Fin cfg0.N) (h0 : ¬t.val % 16 = 0) (h1 : t.val % 4 = 0) (r : Fin 784) (b : Fin 4)
    (hcent : ∀ l, ((outsAt0 m c (t.val - 1) (lt_of_le_of_lt (Nat.sub_le _ _) t.isLt)).2.1 : FVec Ideal S1x3136 .f32) (ix2 0 l) = cent l)
    (hW : ∀ s o, ((outsAt0 m c (t.val - 1) (lt_of_le_of_lt (Nat.sub_le _ _) t.isLt)).2.2 : FVec Ideal S1280x1792 .bf16) (ix2 s o) = right m c b s o)
    (hmb : ∀ x l, (iblk m c 9 t : Vec Ideal S1792x3136 .bf16) (ix2 x l) = mb x l) :
    Stored m c t r cent mb ((outsAt0 m c t.val t.isLt).1 (ix3 0 r 0)) := by
  unfold Stored
  rw [outsAt0_C m c t h0 h1]
  frame_out
  simp only [read_unread_whole]
  generalize outsAt0 m c (t.val - 1) (lt_of_le_of_lt (Nat.sub_le _ _) t.isLt) = S at *
  generalize hV : View.read (Elt Ideal) (View.whole cc0_scratch1) ((View.whole cc0_scratch1).writes (Elt Ideal) _ _) = W
  refine ⟨W, fun s o => ?_, fun hf => ?_⟩
  · rw [← hV]
    refine over_two m c _ _ t _ _ b (fun s o => ?_) s o
    rw [read_unread_whole]
    exact hW s o
  clear hV
  refine block_scores (iblk m c 0 t) (iblk m c 1 t) W (iblk m c 8 t) _ _ _ _ _ _ _ _ _ _ _ _ _ _ cent mb r hf ?_ ?_ ?_ ?_ ?_ ?_ ?_ ?_ ?_ ?_ ?_ ?_ ?_ ?_
  all_goals first
    | (intro k h; exact (tile_norm _ _ _ _ _ _).trans (hcent _))
    | (intro x k h; exact (tile_centre _ _ _ _ _ _ _).trans (hmb _ _))

/-- Some columns of a row of norms that has just been stored. -/
theorem tile_cov {sg : RefSig} {κ : Kind} {sp : Space} (v : View sg κ sp S1x3136 .f32) (L : List (View.Piece (Elt Ideal) S1x3136 .f32)) (off n : ℕ)
    (inb : ∀ a, (![0, off] : Fin 2 → ℕ) a + (![1, n] : Fin 2 → ℕ) a ≤ S1x3136.size a)
    (k : Fin n) (h : off + k.val < 3136) :
    v.readCov L ((Rect.unit (s := S1x3136) ![0, off] ![1, n] inb).toLoadRect) (ix2 0 k) = View.canon L (ix2 0 ⟨off + k.val, h⟩) := by
  rw [View.readCov_eq_canon']
  refine congrArg (View.canon L) (funext fun a => Fin.ext ?_)
  fin_cases a
  · rfl
  · show off + 1 * k.val = off + k.val
    omega

/-- The whole right block that has just been stored. -/
theorem right_cov {sg : RefSig} {κ : Kind} {sp : Space} (v : View sg κ sp S1280x1792 .bf16) (L : List (View.Piece (Elt Ideal) S1280x1792 .bf16))
    (inb : ∀ a : Fin 2, (![0, 0] : Fin 2 → ℕ) a + (![1280, 1792] : Fin 2 → ℕ) a ≤ S1280x1792.size a) (s : Fin 1280) (o : Fin 1792) :
    v.readCov L ((Rect.unit (s := S1280x1792) ![0, 0] ![1280, 1792] inb).toLoadRect) (ix2 s o) = View.canon L (ix2 s o) := by
  rw [View.readCov_eq_canon']
  refine congrArg (View.canon L) (funext fun a => Fin.ext ?_)
  fin_cases a
  · show 0 + 1 * s.val = s.val
    omega
  · show 0 + 1 * o.val = o.val
    omega

theorem outA (t : Fin cfg0.N) (h0 : t.val % 16 = 0) (h1 : t.val % 4 = 0) (r : Fin 784) (hcent : ∀ l, norms m c l = cent l)
    (hmb : ∀ x l, (iblk m c 9 t : Vec Ideal S1792x3136 .bf16) (ix2 x l) = mb x l) :
    Stored m c t r cent mb ((outsAt0 m c t.val t.isLt).1 (ix3 0 r 0)) := by
  unfold Stored
  rw [outsAt0_A m c t h0 h1]
  frame_out
  generalize hL : (_ :: _ : List (View.Piece (Elt Ideal) S1x3136 .f32)) = L
  have hG : ∀ l, View.canon L (ix2 0 l) = cent l := by
    intro l
    rw [← hcent l, ← hL]
    refine canon_seven (norms m c) _ _ _ _ _ _ _ _ _ _ _ _ _ _ ?_ ?_ ?_ ?_ ?_ ?_ ?_ l
    all_goals
      intro k h
      refine Eq.trans ?_ (norm_of_block m c t _)
      pointwise!
  clear hL
  generalize hV : (View.whole cc0_scratch1).readCov (Val := Elt Ideal) _ _ = W
  refine ⟨W, fun s o => ?_, fun hf => ?_⟩
  · rw [← hV]
    refine (right_cov _ _ _ s o).trans ?_
    refine canon_four m c t _ _ _ _ _ _ (fun k o => ?_) (fun k o => ?_) s o
    · pointwise!
    · refine (coord_at _ _ k o).trans ?_
      pointwise!
  clear hV
  refine block_scores (iblk m c 0 t) (iblk m c 1 t) W (iblk m c 8 t) _ _ _ _ _ _ _ _ _ _ _ _ _ _ cent mb r hf ?_ ?_ ?_ ?_ ?_ ?_ ?_ ?_ ?_ ?_ ?_ ?_ ?_ ?_
  all_goals first
    | (intro k h; exact (tile_cov _ _ _ _ _ _ _).trans (hG _))
    | (intro x k h; exact (tile_centre _ _ _ _ _ _ _).trans (hmb _ _))

/-- Every point stores the scores of its positions. -/
theorem out_at (t : Fin cfg0.N) (r : Fin 784) : Stored m c t r (norms m c) (centre m c) ((outsAt0 m c t.val t.isLt).1 (ix3 0 r 0)) := by
  have hc := carried m c (t.val - 1) (lt_of_le_of_lt (Nat.sub_le _ _) t.isLt)
  have hN := points t
  by_cases h0 : t.val % 16 = 0
  · exact outA m c _ _ t h0 (by omega) r (fun _ => rfl) (blk9 m c t)
  by_cases h1 : t.val % 4 = 0
  · exact outC m c _ _ t h0 h1 r _ hc.1 hc.2 (blk9 m c t)
  · refine outB m c _ _ t h0 h1 r hc.1 (fun s o => (hc.2 s o).trans ?_) (blk9 m c t)
    have ei : image ⟨t.val - 1, lt_of_le_of_lt (Nat.sub_le _ _) t.isLt⟩ = image t :=
      Fin.ext (by show (t.val - 1) / 4 = t.val / 4; omega)
    rw [ei]

end Cert.Score

end
-- ==== Proof.Score.Weight.lean ====
/- The interpolation weights, the boxes of the averaging windows and the coordinates: as extended reals, the way the kernel
   computes them, and as real numbers. -/
module

public import Idealize.ShloMosaic.PureOps.Ideal
public import Idealize.ShloMosaic.PureOps.Ideal.Laws
public import Idealize.ShloMosaic.Lib.IdealHost
public import Mathlib.Tactic.Linarith
public import Mathlib.Tactic.FieldSimp
public import Mathlib.Tactic.NormNum

@[expose] public section

set_option maxRecDepth 16384

noncomputable section

namespace Cert.Score

open Idealize.ShloMosaic

/-! ## Constants -/

theorem half_word : Ideal.ofBits .f32 1056964608#32 = ((1 / 2 : ℝ) : EReal) := by
  simp [Ideal.ofBits, Ideal.ieee]
  rw [← EReal.coe_mul]
  norm_num
theorem quarter_word : Ideal.ofBits .f32 1048576000#32 = ((1 / 4 : ℝ) : EReal) := by
  simp [Ideal.ofBits, Ideal.ieee]
  rw [← EReal.coe_mul]
  norm_num
theorem three_word : Ideal.ofBits .f32 1077936128#32 = ((3 : ℝ) : EReal) := by
  simp [Ideal.ofBits, Ideal.ieee]
  rw [← EReal.coe_mul]
  norm_num
theorem nine_word : Ideal.ofBits .f32 1091567616#32 = ((9 : ℝ) : EReal) := by
  simp [Ideal.ofBits, Ideal.ieee]
  rw [← EReal.coe_mul]
  norm_num
theorem two_word : Ideal.ofBits .f32 1073741824#32 = ((2 : ℝ) : EReal) := by
  simp [Ideal.ofBits, Ideal.ieee]
  rw [← EReal.coe_mul]
  norm_num
theorem minus_word : Ideal.ofBits .f32 3212836864#32 = ((-1 : ℝ) : EReal) := by
  simp [Ideal.ofBits, Ideal.ieee]
  rw [← EReal.coe_mul]
  norm_num
theorem last_word : Ideal.ofBits .f32 1113325568#32 = ((55 : ℝ) : EReal) := by
  simp [Ideal.ofBits, Ideal.ieee]
  rw [← EReal.coe_mul]
  norm_num
theorem zero_bf16 : Ideal.ofBits .bf16 0#16 = 0 := by
  simp [Ideal.ofBits, Ideal.ieee]

/-! ## Real arithmetic among the extended reals -/

theorem div_real (a b : ℝ) (h : b ≠ 0) : Ideal.div (a : EReal) (b : EReal) = ((a / b : ℝ) : EReal) := by
  rw [Ideal.div_coe h, ← EReal.coe_mul, mul_one_div]

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem max_real (a b : ℝ) : max (a : EReal) (b : EReal) = ((max a b : ℝ) : EReal) := (EReal.coe_strictMono.monotone.map_max).symm

/-- A small number as the kernel makes it of a counter's word. -/
def natE (n : ℕ) : EReal := FloatOps.sitofp (F := Ideal) FTy.f32 (BitVec.ofNat 32 n)

/-- The absolute value. -/
def absE (x : EReal) : EReal := FloatOps.absf (F := Ideal) (φ := .f32) x

theorem nat_word (n : ℕ) (h : n < 1000) : natE n = ((n : ℝ) : EReal) := by
  show (((BitVec.ofNat 32 n).toInt : ℝ) : EReal) = _
  have e : (BitVec.ofNat 32 n).toInt = (n : ℤ) := by
    have hn : (BitVec.ofNat 32 n).toNat = n := by
      rw [BitVec.toNat_ofNat]
      omega
    rw [BitVec.toInt_eq_toNat_of_lt (by rw [hn]; omega), hn]
  rw [e]
  norm_cast

theorem abs_real (a : ℝ) : absE (a : EReal) = ((|a| : ℝ) : EReal) := by
  show max (a : EReal) (-(a : EReal)) = _
  rw [abs_eq_max_neg, ← max_real, EReal.coe_neg]

/-! ## The weights -/

/-- The tent around the sample position of line `y`, at line `x` of the smaller map. -/
def hatR (s : ℝ) (y x : ℕ) : ℝ := max 0 (1 - |((y : ℝ) + 1 / 2) * s - 1 / 2 - (x : ℝ)|)

/-- The tents' sum. -/
def totR (n : ℕ) (s : ℝ) (y : ℕ) : ℝ := ∑ x : Fin n, hatR s y x.val

/-- The interpolation weight. -/
def wR (n : ℕ) (s : ℝ) (y x : ℕ) : ℝ := hatR s y x / totR n s y

/-- The averaging window along one axis. -/
def boxR (k u : ℕ) : ℝ := if k ≤ u + 1 ∧ u ≤ k + 1 then 1 / 3 else 0

/-- The weight of line `u` once averaging and interpolation are put together. -/
def gR (n : ℕ) (s : ℝ) (y u : ℕ) : ℝ := ∑ x : Fin n, wR n s y x.val * boxR x.val u

/-- The coordinate of line `j`. -/
def linR (j : ℕ) : ℝ := if j < 55 then -1 * (1 - (j : ℝ) / 55) + (j : ℝ) / 55 else 1

/-- The scale of a map of `n` lines against 56, as far as it is used. -/
inductive Scale : ℕ → ℝ → Prop
  | mid : Scale 28 (1 / 2)
  | coarse : Scale 14 (1 / 4)

theorem hatR_nonneg (s : ℝ) (y x : ℕ) : 0 ≤ hatR s y x := le_max_left _ _

theorem near_mid (y : ℕ) : 5 / 8 ≤ hatR (1 / 2) y (y / 2) := by
  refine le_max_of_le_right ?_
  obtain h | h : y = 2 * (y / 2) ∨ y = 2 * (y / 2) + 1 := by omega
  all_goals
    have e : (y : ℝ) = _ := congrArg (Nat.cast (R := ℝ)) h
    push_cast at e
    have : |((y : ℝ) + 1 / 2) * (1 / 2) - 1 / 2 - ((y / 2 : ℕ) : ℝ)| ≤ 3 / 8 := by
      rw [abs_le]
      constructor <;> linarith
    linarith

theorem near_coarse (y : ℕ) : 5 / 8 ≤ hatR (1 / 4) y (y / 4) := by
  refine le_max_of_le_right ?_
  obtain h | h | h | h : y = 4 * (y / 4) ∨ y = 4 * (y / 4) + 1 ∨ y = 4 * (y / 4) + 2 ∨ y = 4 * (y / 4) + 3 := by omega
  all_goals
    have e : (y : ℝ) = _ := congrArg (Nat.cast (R := ℝ)) h
    push_cast at e
    have : |((y : ℝ) + 1 / 2) * (1 / 4) - 1 / 2 - ((y / 4 : ℕ) : ℝ)| ≤ 3 / 8 := by
      rw [abs_le]
      constructor <;> linarith
    linarith

theorem tot_of (n : ℕ) (s : ℝ) (y : ℕ) (x : Fin n) (h : 5 / 8 ≤ hatR s y x.val) : 5 / 8 ≤ totR n s y := by
  refine h.trans ?_
  unfold totR
  exact Finset.single_le_sum (f := fun x : Fin n => hatR s y x.val) (fun i _ => hatR_nonneg _ _ _) (Finset.mem_univ x)

theorem tot_ge {n : ℕ} {s : ℝ} (h : Scale n s) (y : ℕ) (hy : y < 56) : 5 / 8 ≤ totR n s y := by
  cases h with
  | mid => exact tot_of 28 (1 / 2) y ⟨y / 2, by omega⟩ (near_mid y)
  | coarse => exact tot_of 14 (1 / 4) y ⟨y / 4, by omega⟩ (near_coarse y)

theorem tot_ne {n : ℕ} {s : ℝ} (h : Scale n s) (y : ℕ) (hy : y < 56) : totR n s y ≠ 0 := by
  have := tot_ge h y hy
  intro e
  rw [e] at this
  norm_num at this

/-! ## The same, the way the kernel computes it -/

/-- The tent. -/
def hatE (sc : EReal) (y x : ℕ) : EReal :=
  max 0 (1 - absE ((natE y + Ideal.ofBits FTy.f32 1056964608#32) * sc - Ideal.ofBits FTy.f32 1056964608#32 - natE x))

/-- The window along one axis. -/
def boxE (x u : ℕ) : EReal :=
  Ideal.div (FloatOps.uitofp FTy.f32 (IntOp.cmpi CmpIPredicate.sle (IntOp.absi (IntOp.subi (BitVec.ofNat 32 x) (BitVec.ofNat 32 u))) 1#32) : Ideal .f32)
    (Ideal.ofBits FTy.f32 1077936128#32)

/-- Weight and window together. -/
def gE (n : ℕ) (sc : EReal) (y u : ℕ) : EReal := ∑ x : Fin n, Ideal.div (hatE sc y x.val) (∑ x : Fin n, hatE sc y x.val) * boxE x.val u

/-- The coordinate. -/
def linE (j : ℕ) : EReal :=
  if h : j < 55 then Ideal.ofBits FTy.f32 3212836864#32 * (1 - Ideal.div (natE j) (Ideal.ofBits FTy.f32 1113325568#32))
    + Ideal.div (natE j) (Ideal.ofBits FTy.f32 1113325568#32)
  else 1

theorem hat_real (s : ℝ) (y x : ℕ) (hy : y < 56) (hx : x < 56) : hatE (s : EReal) y x = (hatR s y x : EReal) := by
  unfold hatE hatR
  rw [nat_word y (by omega), nat_word x (by omega), half_word]
  simp only [← EReal.coe_add, ← EReal.coe_mul, ← EReal.coe_sub]
  rw [abs_real, ← EReal.coe_one, ← EReal.coe_sub, ← EReal.coe_zero, max_real]

theorem box_words : ∀ x u : Fin 28, IntOp.cmpi CmpIPredicate.sle (IntOp.absi (IntOp.subi (BitVec.ofNat 32 x.val) (BitVec.ofNat 32 u.val))) 1#32
    = if x.val ≤ u.val + 1 ∧ u.val ≤ x.val + 1 then 1#1 else 0#1 := by decide +kernel

theorem box_real (x u : ℕ) (hx : x < 28) (hu : u < 28) : boxE x u = (boxR x u : EReal) := by
  unfold boxE boxR
  rw [box_words ⟨x, hx⟩ ⟨u, hu⟩, three_word]
  by_cases h : x ≤ u + 1 ∧ u ≤ x + 1
  · rw [if_pos h, if_pos h]
    have e : (FloatOps.uitofp FTy.f32 (1#1) : Ideal .f32) = ((1 : ℝ) : EReal) := by
      show (((1#1 : BitVec 1).toNat : ℝ) : EReal) = _
      norm_num
    rw [e, div_real _ _ (by norm_num)]
  · rw [if_neg h, if_neg h]
    have e : (FloatOps.uitofp FTy.f32 (0#1) : Ideal .f32) = ((0 : ℝ) : EReal) := by
      show (((0#1 : BitVec 1).toNat : ℝ) : EReal) = _
      norm_num
    rw [e, div_real _ _ (by norm_num), zero_div]

theorem g_real {n : ℕ} {s : ℝ} (h : Scale n s) (y u : ℕ) (hy : y < 56) (hu : u < n) : gE n (s : EReal) y u = (gR n s y u : EReal) := by
  have hn : n ≤ 28 := by cases h <;> norm_num
  unfold gE gR
  rw [← sum_real]
  have et : ∑ x : Fin n, hatE (s : EReal) y x.val = (totR n s y : EReal) := by
    unfold totR
    rw [← sum_real]
    exact Finset.sum_congr rfl fun x _ => hat_real s y x.val hy (by omega)
  refine Finset.sum_congr rfl fun x _ => ?_
  rw [et, hat_real s y x.val hy (by omega), box_real x.val u (by omega) (by omega), div_real _ _ (tot_ne h y hy), ← EReal.coe_mul]
  rfl

theorem lin_real (j : ℕ) (hj : j < 56) : linE j = (linR j : EReal) := by
  unfold linE linR
  by_cases h : j < 55
  · rw [dif_pos h, if_pos h, nat_word j (by omega), minus_word, last_word, div_real _ _ (by norm_num), ← EReal.coe_one, ← EReal.coe_sub,
      ← EReal.coe_mul, ← EReal.coe_add]
  · rw [dif_neg h, if_neg h, EReal.coe_one]

end Cert.Score

end
-- ==== Proof.Score.Window.lean ====
/- A three by three window sum over a zero-padded square image, read at a place. -/
module

public import Idealize.ShloMosaic.Lib.Pointwise
public import Idealize.ShloMosaic.Lib.ValueIdx

@[expose] public section

set_option maxRecDepth 16384

noncomputable section

namespace Cert.Score

open Idealize.ShloMosaic

/-- The image `a` inside a border of zeros one wide. -/
def padded {n : ℕ} (a : Fin n → Fin n → EReal) (p q : ℕ) : EReal :=
  if h : (1 ≤ p ∧ p - 1 < n) ∧ (1 ≤ q ∧ q - 1 < n) then a ⟨p - 1, h.1.2⟩ ⟨q - 1, h.2.2⟩ else 0

/-- The sum over the window whose centre is `(y, x)`. -/
def win9 {n : ℕ} (a : Fin n → Fin n → EReal) (y x : ℕ) : EReal :=
  0 + padded a y x + padded a y (x + 1) + padded a y (x + 2) + padded a (y + 1) x + padded a (y + 1) (x + 1)
    + padded a (y + 1) (x + 2) + padded a (y + 2) x + padded a (y + 2) (x + 1) + padded a (y + 2) (x + 2)

theorem term_last {B n C : ℕ} (X : (⟨4, ![B, n, n, C]⟩ : Shape).Idx → EReal) (b : Fin B) (k : Fin C) (y x : ℕ)
    (p : Fin 4 → ℕ) (h0 : p 0 = b.val) (h1 : p 1 = y) (h2 : p 2 = x) (h3 : p 3 = k.val)
    {dec : Decidable (∀ a : Fin 4, (![0, 1, 1, 0] : Fin 4 → ℕ) a ≤ p a ∧ p a - (![0, 1, 1, 0] : Fin 4 → ℕ) a < (⟨4, ![B, n, n, C]⟩ : Shape).size a)} :
    @dite _ (∀ a : Fin 4, (![0, 1, 1, 0] : Fin 4 → ℕ) a ≤ p a ∧ p a - (![0, 1, 1, 0] : Fin 4 → ℕ) a < (⟨4, ![B, n, n, C]⟩ : Shape).size a) dec
      (fun hin => X (fun a => ⟨p a - (![0, 1, 1, 0] : Fin 4 → ℕ) a, (hin a).2⟩)) (fun _ => 0) = padded (fun u v => X (ix4 b u v k)) y x := by
  subst h1 h2
  unfold padded
  by_cases h : (1 ≤ p 1 ∧ p 1 - 1 < n) ∧ (1 ≤ p 2 ∧ p 2 - 1 < n)
  · have hin : ∀ a : Fin 4, (![0, 1, 1, 0] : Fin 4 → ℕ) a ≤ p a ∧ p a - (![0, 1, 1, 0] : Fin 4 → ℕ) a < (⟨4, ![B, n, n, C]⟩ : Shape).size a := by
      intro a
      fin_cases a
      · exact ⟨Nat.zero_le _, by show p 0 - 0 < B; omega⟩
      · exact h.1
      · exact h.2
      · exact ⟨Nat.zero_le _, by show p 3 - 0 < C; omega⟩
    rw [dif_pos hin, dif_pos h]
    congr 1
    funext a
    fin_cases a
    · exact Fin.ext (by show p 0 - 0 = b.val; omega)
    · rfl
    · rfl
    · exact Fin.ext (by show p 3 - 0 = k.val; omega)
  · rw [dif_neg h, dif_neg]
    intro hin
    exact h ⟨hin 1, hin 2⟩

theorem term_first {B n C : ℕ} (X : (⟨4, ![B, C, n, n]⟩ : Shape).Idx → EReal) (b : Fin B) (k : Fin C) (y x : ℕ)
    (p : Fin 4 → ℕ) (h0 : p 0 = b.val) (h1 : p 1 = k.val) (h2 : p 2 = y) (h3 : p 3 = x)
    {dec : Decidable (∀ a : Fin 4, (![0, 0, 1, 1] : Fin 4 → ℕ) a ≤ p a ∧ p a - (![0, 0, 1, 1] : Fin 4 → ℕ) a < (⟨4, ![B, C, n, n]⟩ : Shape).size a)} :
    @dite _ (∀ a : Fin 4, (![0, 0, 1, 1] : Fin 4 → ℕ) a ≤ p a ∧ p a - (![0, 0, 1, 1] : Fin 4 → ℕ) a < (⟨4, ![B, C, n, n]⟩ : Shape).size a) dec
      (fun hin => X (fun a => ⟨p a - (![0, 0, 1, 1] : Fin 4 → ℕ) a, (hin a).2⟩)) (fun _ => 0) = padded (fun u v => X (ix4 b k u v)) y x := by
  subst h2 h3
  unfold padded
  by_cases h : (1 ≤ p 2 ∧ p 2 - 1 < n) ∧ (1 ≤ p 3 ∧ p 3 - 1 < n)
  · have hin : ∀ a : Fin 4, (![0, 0, 1, 1] : Fin 4 → ℕ) a ≤ p a ∧ p a - (![0, 0, 1, 1] : Fin 4 → ℕ) a < (⟨4, ![B, C, n, n]⟩ : Shape).size a := by
      intro a
      fin_cases a
      · exact ⟨Nat.zero_le _, by show p 0 - 0 < B; omega⟩
      · exact ⟨Nat.zero_le _, by show p 1 - 0 < C; omega⟩
      · exact h.1
      · exact h.2
    rw [dif_pos hin, dif_pos h]
    congr 1
    funext a
    fin_cases a
    · exact Fin.ext (by show p 0 - 0 = b.val; omega)
    · exact Fin.ext (by show p 1 - 0 = k.val; omega)
    · rfl
    · rfl
  · rw [dif_neg h, dif_neg]
    intro hin
    exact h ⟨hin 2, hin 3⟩

theorem foldl_nine {α : Type} (g : ℕ → α) (f : α → α → α) (z : α) :
    (List.finRange 9).foldl (fun r n => f r (g n.val)) z = f (f (f (f (f (f (f (f (f z (g 0)) (g 1)) (g 2)) (g 3)) (g 4)) (g 5)) (g 6)) (g 7)) (g 8) := by
  rfl

theorem window_last {B n C : ℕ} (X : (⟨4, ![B, n, n, C]⟩ : Shape).Idx → EReal) (b : Fin B) (y x : Fin n) (k : Fin C)
    (h : (⟨4, ![B, n, n, C]⟩ : Shape).ReduceWindows ![1, 3, 3, 1] ![1, 1, 1, 1] ![0, 1, 1, 0] ![0, 1, 1, 0] ⟨4, ![B, n, n, C]⟩) :
    Ideal.hostReduceWindowAdd ![1, 3, 3, 1] ![1, 1, 1, 1] ![0, 1, 1, 0] ![0, 1, 1, 0] h X 0 (ix4 b y x k)
      = win9 (fun u v => X (ix4 b u v k)) y.val x.val := by
  have hW : ∀ i : Fin 9, ((⟨4, ![1, 3, 3, 1]⟩ : Shape).rowMajor.symm i 0).val = 0
      ∧ ((⟨4, ![1, 3, 3, 1]⟩ : Shape).rowMajor.symm i 1).val = i.val / 3
      ∧ ((⟨4, ![1, 3, 3, 1]⟩ : Shape).rowMajor.symm i 2).val = i.val % 3
      ∧ ((⟨4, ![1, 3, 3, 1]⟩ : Shape).rowMajor.symm i 3).val = 0 := by decide +kernel
  have key := foldl_nine (fun i => padded (fun u v => X (ix4 b u v k)) (y.val + i / 3) (x.val + i % 3)) (· + ·) (0 : EReal)
  refine Eq.trans ?_ key
  unfold Ideal.hostReduceWindowAdd Host.reduceWindow
  show (List.finRange 9).foldl _ _ = _
  congr 1
  funext r i
  refine congrArg (r + ·) (term_last X b k _ _ _ ?_ ?_ ?_ ?_)
  · show b.val * 1 + _ = _
    rw [(hW i).1]; omega
  · show y.val * 1 + _ = _
    rw [(hW i).2.1]; omega
  · show x.val * 1 + _ = _
    rw [(hW i).2.2.1]; omega
  · show k.val * 1 + _ = _
    rw [(hW i).2.2.2]; omega

theorem window_first {B n C : ℕ} (X : (⟨4, ![B, C, n, n]⟩ : Shape).Idx → EReal) (b : Fin B) (y x : Fin n) (k : Fin C)
    (h : (⟨4, ![B, C, n, n]⟩ : Shape).ReduceWindows ![1, 1, 3, 3] ![1, 1, 1, 1] ![0, 0, 1, 1] ![0, 0, 1, 1] ⟨4, ![B, C, n, n]⟩) :
    Ideal.hostReduceWindowAdd ![1, 1, 3, 3] ![1, 1, 1, 1] ![0, 0, 1, 1] ![0, 0, 1, 1] h X 0 (ix4 b k y x)
      = win9 (fun u v => X (ix4 b k u v)) y.val x.val := by
  have hW : ∀ i : Fin 9, ((⟨4, ![1, 1, 3, 3]⟩ : Shape).rowMajor.symm i 0).val = 0
      ∧ ((⟨4, ![1, 1, 3, 3]⟩ : Shape).rowMajor.symm i 1).val = 0
      ∧ ((⟨4, ![1, 1, 3, 3]⟩ : Shape).rowMajor.symm i 2).val = i.val / 3
      ∧ ((⟨4, ![1, 1, 3, 3]⟩ : Shape).rowMajor.symm i 3).val = i.val % 3 := by decide +kernel
  have key := foldl_nine (fun i => padded (fun u v => X (ix4 b k u v)) (y.val + i / 3) (x.val + i % 3)) (· + ·) (0 : EReal)
  refine Eq.trans ?_ key
  unfold Ideal.hostReduceWindowAdd Host.reduceWindow
  show (List.finRange 9).foldl _ _ = _
  congr 1
  funext r i
  refine congrArg (r + ·) (term_first X b k _ _ _ ?_ ?_ ?_ ?_)
  · show b.val * 1 + _ = _
    rw [(hW i).1]; omega
  · show k.val * 1 + _ = _
    rw [(hW i).2.1]; omega
  · show y.val * 1 + _ = _
    rw [(hW i).2.2.1]; omega
  · show x.val * 1 + _ = _
    rw [(hW i).2.2.2]; omega

end Cert.Score

end
-- ==== Proof.Score.Host.lean ====
/- What the host leaves in the arrays the kernel reads, at an index. -/
module

public import proofs.«01_k».proof.Proof.Gen.KernelIdeal.Frame
public import proofs.«01_k».proof.Proof.Score.Weight
public import proofs.«01_k».proof.Proof.Score.Window
public import Idealize.ShloMosaic.Lib.Pointwise
public import Idealize.ShloMosaic.Lib.ValueIdx
public import Idealize.ShloMosaic.Lib.Claim
public import Idealize.ShloMosaic.Lib.StableHlo.ReadAt

@[expose] public section

set_option maxRecDepth 16384

noncomputable section

namespace Cert.Score

open Idealize.ShloMosaic
open Cert.KernelIdeal Cert.KernelIdeal.Gen

variable (m : (ℓ : Loc nD τ sig) → Buf (Elt Ideal) ℓ) (c : Dev nD)

/-- The interpolation of the two coarser maps and the coordinates, as one array. -/
def kcE (j : Fin 3136) (s : Fin 1024) : EReal :=
  if h : s.val < 1008 then
    if h : s.val < 784 then
      gE 28 (Ideal.ofBits FTy.f32 1056964608#32) (j.val / 56) (s.val / 28) * gE 28 (Ideal.ofBits FTy.f32 1056964608#32) (j.val % 56) (s.val % 28)
    else if h : s.val - 784 < 196 then
      gE 14 (Ideal.ofBits FTy.f32 1048576000#32) (j.val / 56) ((s.val - 784) / 14) * gE 14 (Ideal.ofBits FTy.f32 1048576000#32) (j.val % 56) ((s.val - 784) % 14)
    else FloatOps.sitofp (F := Ideal) FTy.f32 0#32
  else if h : s.val - 1008 < 2 then
    if h : s.val - 1008 < 1 then linE (j.val % 56) else linE (j.val / 56)
  else FloatOps.sitofp (F := Ideal) FTy.f32 0#32

theorem v111_at (j : Fin 3136) (s : Fin 1024) : (V m c main_call0_v111 : FVec Ideal S3136x1024 .bf16) (ix2 j s) = kcE j s := by
  entry_read
  simp -implicitDefEqProofs only [StableHlo.TRef.toBuf, StableHlo.TRef.ofBuf, cast_cast, cast_eq]
  clean_types
  pointwise
  rfl

theorem v8_at (b : Fin 4) (j : Fin 3136) (k : Fin 256) : (V m c main_call0_v8 : FVec Ideal S4x3136x256 .bf16) (ix3 b j k)
    = Ideal.div (win9 (fun u v => (m (c.tc.loc main_arg0) : FVec Ideal S4x256x56x56 .f32) (ix4 b k u v)) (j.val / 56) (j.val % 56)) (Ideal.ofBits FTy.f32 1091567616#32) := by
  entry_read
  simp -implicitDefEqProofs only [StableHlo.TRef.toBuf, StableHlo.TRef.ofBuf, cast_cast, cast_eq]
  clean_types
  pointwise
  refine congrArg (fun z => Ideal.div z (Ideal.ofBits FTy.f32 1091567616#32)) ?_
  rw [Host.reduceWindowAdd, Ideal.hostReduceWindowAdd_def]
  have hz : (broadcastInDim S_ ![] bcast_S_S_ (constant (F := Ideal) S_ FTy.f32 0#32) (Shape.Idx.first h_S_) : EReal) = 0 := Ideal.ofBits_zero_f32
  refine (congrArg (fun z => Ideal.hostReduceWindowAdd _ _ _ _ _ _ z _) hz).trans ?_
  refine (window_last _ b ⟨j.val / 56, by have := j.isLt; omega⟩ ⟨j.val % 56, by have := j.isLt; omega⟩ k _).trans ?_
  refine congrArg (fun a => win9 a (j.val / 56) (j.val % 56)) (funext fun u => funext fun v => ?_)
  pointwise

theorem v11_at (b : Fin 4) (s : Fin 784) (k : Fin 512) : (V m c main_call0_v11 : FVec Ideal S4x784x512 .bf16) (ix3 b s k)
    = (m (c.tc.loc main_arg1) : FVec Ideal S4x512x28x28 .f32) (ix4 b k ⟨s.val / 28, by omega⟩ ⟨s.val % 28, by omega⟩) := by
  entry_read
  simp -implicitDefEqProofs only [StableHlo.TRef.toBuf, StableHlo.TRef.ofBuf, cast_cast, cast_eq]
  clean_types
  pointwise

theorem v15_at (b : Fin 4) (s : Fin 224) (k : Fin 1024) : (V m c main_call0_v15 : FVec Ideal S4x224x1024 .bf16) (ix3 b s k)
    = if h : s.val < 196 then (m (c.tc.loc main_arg2) : FVec Ideal S4x1024x14x14 .f32) (ix4 b k ⟨s.val / 14, by omega⟩ ⟨s.val % 14, by omega⟩)
      else FloatOps.sitofp (F := Ideal) FTy.f32 0#32 := by
  entry_read
  simp -implicitDefEqProofs only [StableHlo.TRef.toBuf, StableHlo.TRef.ofBuf, cast_cast, cast_eq]
  clean_types
  pointwise

theorem v114_at (k : Fin 256) (o : Fin 1792) : (V m c main_call0_v114 : FVec Ideal S256x1792 .bf16) (ix2 k o)
    = (m (c.tc.loc main_arg3) : FVec Ideal S1792x1794 .f32) (ix2 o ⟨k.val, by omega⟩) := by
  entry_read
  simp -implicitDefEqProofs only [StableHlo.TRef.toBuf, StableHlo.TRef.ofBuf, cast_cast, cast_eq]
  clean_types
  pointwise

theorem v116_at (k : Fin 512) (o : Fin 1792) : (V m c main_call0_v116 : FVec Ideal S512x1792 .bf16) (ix2 k o)
    = (m (c.tc.loc main_arg3) : FVec Ideal S1792x1794 .f32) (ix2 o ⟨256 + k.val, by omega⟩) := by
  entry_read
  simp -implicitDefEqProofs only [StableHlo.TRef.toBuf, StableHlo.TRef.ofBuf, cast_cast, cast_eq]
  clean_types
  pointwise

theorem v118_at (k : Fin 1024) (o : Fin 1792) : (V m c main_call0_v118 : FVec Ideal S1024x1792 .bf16) (ix2 k o)
    = (m (c.tc.loc main_arg3) : FVec Ideal S1792x1794 .f32) (ix2 o ⟨768 + k.val, by omega⟩) := by
  entry_read
  simp -implicitDefEqProofs only [StableHlo.TRef.toBuf, StableHlo.TRef.ofBuf, cast_cast, cast_eq]
  clean_types
  pointwise

theorem v120_at (k : Fin 2) (o : Fin 1792) : (V m c main_call0_v120 : FVec Ideal S2x1792 .bf16) (ix2 k o)
    = (m (c.tc.loc main_arg3) : FVec Ideal S1792x1794 .f32) (ix2 o ⟨1792 + k.val, by omega⟩) := by
  entry_read
  simp -implicitDefEqProofs only [StableHlo.TRef.toBuf, StableHlo.TRef.ofBuf, cast_cast, cast_eq]
  clean_types
  pointwise

theorem v121_at (o : Fin 1792) : (V m c main_call0_v121 : FVec Ideal S1x1792 .f32) (ix2 0 o)
    = (m (c.tc.loc main_arg4) : FVec Ideal S1792 .f32) (ix1 o) := by
  entry_read
  try simp -implicitDefEqProofs only [StableHlo.TRef.toBuf, StableHlo.TRef.ofBuf, cast_cast, cast_eq]
  clean_types
  pointwise

theorem v122_at (k : Fin 1792) (l : Fin 3136) : (V m c main_call0_v122 : FVec Ideal S1792x3136 .bf16) (ix2 k l)
    = (m (c.tc.loc main_arg5) : FVec Ideal S1792x3136 .f32) (ix2 k l) := by
  entry_read
  try simp -implicitDefEqProofs only [StableHlo.TRef.toBuf, StableHlo.TRef.ofBuf, cast_cast, cast_eq]
  clean_types
  pointwise

theorem loss_at : (V m c main_v0_0 : FVec Ideal S_ .f32) = (constant S_ .f32 0x00000000#32 : FVec Ideal S_ .f32) := by
  entry_read
  simp -implicitDefEqProofs only [StableHlo.TRef.toBuf, StableHlo.TRef.ofBuf, cast_cast, cast_eq]
  clean_types
  funext i
  rfl

end Cert.Score

end
-- ==== Proof.Score.Box.lean ====
/- Averaging a square image over three by three windows and interpolating the averages, over the real numbers: the two
   together are one weighted sum over the image. -/
module

public import proofs.«01_k».proof.Proof.Score.Weight
public import proofs.«01_k».proof.Proof.Score.Window
public import Mathlib.Tactic.Ring

@[expose] public section

set_option maxRecDepth 16384

noncomputable section

namespace Cert.Score

open Idealize.ShloMosaic

/-- `padded` of a real image. -/
def padR {n : ℕ} (a : Fin n → Fin n → ℝ) (p q : ℕ) : ℝ :=
  if h : (1 ≤ p ∧ p - 1 < n) ∧ (1 ≤ q ∧ q - 1 < n) then a ⟨p - 1, h.1.2⟩ ⟨q - 1, h.2.2⟩ else 0

/-- The average over the window whose centre is `(y, x)`. -/
def avgR {n : ℕ} (a : Fin n → Fin n → ℝ) (y x : ℕ) : ℝ :=
  (0 + padR a y x + padR a y (x + 1) + padR a y (x + 2) + padR a (y + 1) x + padR a (y + 1) (x + 1)
    + padR a (y + 1) (x + 2) + padR a (y + 2) x + padR a (y + 2) (x + 1) + padR a (y + 2) (x + 2)) / 9

theorem pad_real {n : ℕ} (a : Fin n → Fin n → ℝ) (p q : ℕ) : padded (fun u v => (a u v : EReal)) p q = (padR a p q : EReal) := by
  unfold padded padR
  split_ifs <;> simp

theorem avg_real {n : ℕ} (a : Fin n → Fin n → ℝ) (y x : ℕ) :
    Ideal.div (win9 (fun u v => (a u v : EReal)) y x) (Ideal.ofBits FTy.f32 1091567616#32) = (avgR a y x : EReal) := by
  unfold win9 avgR
  simp only [pad_real]
  rw [nine_word, ← EReal.coe_zero]
  simp only [← EReal.coe_add]
  rw [div_real _ _ (by norm_num)]

/-- One where line `u` is line `p` of the image with its border. -/
def atR (p u : ℕ) : ℝ := if u + 1 = p then 1 else 0

theorem pad_sum {n : ℕ} (a : Fin n → Fin n → ℝ) (p q : ℕ) :
    padR a p q = ∑ u : Fin n, ∑ v : Fin n, atR p u.val * atR q v.val * a u v := by
  unfold padR atR
  by_cases h : (1 ≤ p ∧ p - 1 < n) ∧ (1 ≤ q ∧ q - 1 < n)
  · rw [dif_pos h, Finset.sum_eq_single (⟨p - 1, h.1.2⟩ : Fin n), Finset.sum_eq_single (⟨q - 1, h.2.2⟩ : Fin n)]
    · rw [if_pos (by show p - 1 + 1 = p; omega), if_pos (by show q - 1 + 1 = q; omega)]
      ring
    · intro v _ hv
      have : ¬v.val + 1 = q := fun e => hv (Fin.ext (by show v.val = q - 1; omega))
      rw [if_neg this]
      ring
    · intro hn
      exact absurd (Finset.mem_univ _) hn
    · intro u _ hu
      have : ¬u.val + 1 = p := fun e => hu (Fin.ext (by show u.val = p - 1; omega))
      refine Finset.sum_eq_zero fun v _ => ?_
      rw [if_neg this]
      ring
    · intro hn
      exact absurd (Finset.mem_univ _) hn
  · rw [dif_neg h]
    refine (Finset.sum_eq_zero fun u _ => Finset.sum_eq_zero fun v _ => ?_).symm
    have hu := u.isLt
    have hv := v.isLt
    by_cases e : u.val + 1 = p
    · have : ¬v.val + 1 = q := fun e' => h (by omega)
      rw [if_neg this]
      ring
    · rw [if_neg e]
      ring

theorem box_at (k u : ℕ) : boxR k u = (atR k u + atR (k + 1) u + atR (k + 2) u) / 3 := by
  unfold boxR atR
  by_cases h : k ≤ u + 1 ∧ u ≤ k + 1
  · rw [if_pos h]
    obtain e | e | e : u + 1 = k ∨ u + 1 = k + 1 ∨ u + 1 = k + 2 := by omega
    · rw [if_pos e, if_neg (by omega), if_neg (by omega)]
      norm_num
    · rw [if_neg (by omega), if_pos e, if_neg (by omega)]
      norm_num
    · rw [if_neg (by omega), if_neg (by omega), if_pos e]
      norm_num
  · rw [if_neg h, if_neg (by omega), if_neg (by omega), if_neg (by omega)]
    norm_num

theorem avg_box {n : ℕ} (a : Fin n → Fin n → ℝ) (y x : ℕ) :
    avgR a y x = ∑ u : Fin n, ∑ v : Fin n, boxR y u.val * boxR x v.val * a u v := by
  unfold avgR
  simp only [pad_sum, box_at]
  rw [zero_add]
  simp only [← Finset.sum_add_distrib]
  rw [Finset.sum_div]
  refine Finset.sum_congr rfl fun u _ => ?_
  rw [Finset.sum_div]
  refine Finset.sum_congr rfl fun v _ => ?_
  ring

/-- The image averaged and interpolated, at `(y, x)` of the larger map. -/
def upR (n : ℕ) (s : ℝ) (a : Fin n → Fin n → ℝ) (y x : ℕ) : ℝ :=
  ∑ u : Fin n, ∑ v : Fin n, gR n s y u.val * gR n s x v.val * a u v

theorem up_eq (n : ℕ) (s : ℝ) (a : Fin n → Fin n → ℝ) (y x : ℕ) :
    ∑ l : Fin n, (∑ k : Fin n, wR n s y k.val * avgR a k.val l.val) * wR n s x l.val = upR n s a y x := by
  have e1 : ∑ l : Fin n, (∑ k : Fin n, wR n s y k.val * avgR a k.val l.val) * wR n s x l.val
      = ∑ l : Fin n, ∑ k : Fin n, ∑ u : Fin n, ∑ v : Fin n, wR n s y k.val * boxR k.val u.val * (wR n s x l.val * boxR l.val v.val) * a u v := by
    refine Finset.sum_congr rfl fun l _ => ?_
    rw [Finset.sum_mul]
    refine Finset.sum_congr rfl fun k _ => ?_
    rw [avg_box, Finset.mul_sum, Finset.sum_mul]
    refine Finset.sum_congr rfl fun u _ => ?_
    rw [Finset.mul_sum, Finset.sum_mul]
    refine Finset.sum_congr rfl fun v _ => ?_
    ring
  have e2 : upR n s a y x
      = ∑ u : Fin n, ∑ v : Fin n, ∑ l : Fin n, ∑ k : Fin n, wR n s y k.val * boxR k.val u.val * (wR n s x l.val * boxR l.val v.val) * a u v := by
    unfold upR gR
    refine Finset.sum_congr rfl fun u _ => Finset.sum_congr rfl fun v _ => ?_
    rw [Finset.mul_sum, Finset.sum_mul]
    refine Finset.sum_congr rfl fun l _ => ?_
    rw [Finset.sum_mul, Finset.sum_mul]
  rw [e1, e2]
  rw [Finset.sum_congr rfl fun l _ => Finset.sum_comm]
  rw [Finset.sum_comm]
  refine Finset.sum_congr rfl fun u _ => ?_
  rw [Finset.sum_congr rfl fun l _ => Finset.sum_comm]
  rw [Finset.sum_comm]

end Cert.Score

end
-- ==== Proof.Score.Phi.lean ====
/- The features of a position, over the real numbers, and the sums they are computed by. -/
module

public import proofs.«01_k».proof.Proof.Score.Box

@[expose] public section

set_option maxRecDepth 16384

noncomputable section

namespace Cert.Score

open Idealize.ShloMosaic

/-! ## Sums -/

theorem sum_split {M : Type} [AddCommMonoid M] (a b n : ℕ) (h : a + b = n) (f : Fin n → M) :
    ∑ i, f i = ∑ i : Fin a, f ⟨i.val, by omega⟩ + ∑ i : Fin b, f ⟨a + i.val, by omega⟩ := by
  subst h
  exact Fin.sum_univ_add f

/-- A sum over the lines of a square image laid out line after line. -/
theorem sum_square (n N : ℕ) (hN : N = n * n) (hd : ∀ s : Fin N, s.val / n < n) (hm : ∀ s : Fin N, s.val % n < n) (f : Fin n → Fin n → ℝ) :
    ∑ s : Fin N, f ⟨s.val / n, hd s⟩ ⟨s.val % n, hm s⟩ = ∑ u, ∑ v, f u v := by
  subst hN
  rw [← Equiv.sum_comp finProdFinEquiv, Fintype.sum_prod_type]
  refine Finset.sum_congr rfl fun u _ => Finset.sum_congr rfl fun v _ => ?_
  have hv := v.isLt
  have e1 : (finProdFinEquiv (u, v)).val / n = u.val := by
    show (v.val + n * u.val) / n = u.val
    rw [Nat.add_mul_div_left _ _ (by omega), Nat.div_eq_of_lt hv, zero_add]
  have e2 : (finProdFinEquiv (u, v)).val % n = v.val := by
    show (v.val + n * u.val) % n = v.val
    rw [Nat.add_mul_mod_self_left, Nat.mod_eq_of_lt hv]
  congr 1
  · exact Fin.ext e1
  · exact Fin.ext e2

/-- Weighting the products of an image's channels by `W` is the products of its weighted channels. -/
theorem sum_swap (n N C : ℕ) (hN : N = n * n) (hd : ∀ s : Fin N, s.val / n < n) (hm : ∀ s : Fin N, s.val % n < n)
    (G : Fin n → Fin n → ℝ) (a : Fin C → Fin n → Fin n → ℝ) (W : Fin C → ℝ) :
    ∑ s : Fin N, G ⟨s.val / n, hd s⟩ ⟨s.val % n, hm s⟩ * ∑ k, a k ⟨s.val / n, hd s⟩ ⟨s.val % n, hm s⟩ * W k
      = ∑ k, (∑ u, ∑ v, G u v * a k u v) * W k := by
  rw [sum_square n N hN hd hm (fun u v => G u v * ∑ k, a k u v * W k)]
  have e : ∀ u v, G u v * ∑ k, a k u v * W k = ∑ k, G u v * a k u v * W k := by
    intro u v
    rw [Finset.mul_sum]
    exact Finset.sum_congr rfl fun k _ => by ring
  simp only [e]
  rw [Finset.sum_congr rfl fun u _ => Finset.sum_comm, Finset.sum_comm]
  refine Finset.sum_congr rfl fun k _ => ?_
  rw [Finset.sum_mul]
  exact Finset.sum_congr rfl fun u _ => by rw [Finset.sum_mul]

/-! ## Features -/

variable (A0 : (⟨4, ![4, 256, 56, 56]⟩ : Shape).Idx → ℝ) (A1 : (⟨4, ![4, 512, 28, 28]⟩ : Shape).Idx → ℝ)
  (A2 : (⟨4, ![4, 1024, 14, 14]⟩ : Shape).Idx → ℝ) (A3 : (⟨2, ![1792, 1794]⟩ : Shape).Idx → ℝ) (A4 : (⟨1, ![1792]⟩ : Shape).Idx → ℝ)
  (A5 : (⟨2, ![1792, 3136]⟩ : Shape).Idx → ℝ)

/-- The averaged fine map. -/
def fineR (b : Fin 4) (j : Fin 3136) (k : Fin 256) : ℝ := avgR (fun u v => A0 (ix4 b k u v)) (j.val / 56) (j.val % 56)

/-- The averaged, interpolated middle map. -/
def midR (b : Fin 4) (j : Fin 3136) (k : Fin 512) : ℝ := upR 28 (1 / 2) (fun u v => A1 (ix4 b k u v)) (j.val / 56) (j.val % 56)

/-- The averaged, interpolated coarse map. -/
def coarseR (b : Fin 4) (j : Fin 3136) (k : Fin 1024) : ℝ := upR 14 (1 / 4) (fun u v => A2 (ix4 b k u v)) (j.val / 56) (j.val % 56)

/-- Feature `o` of position `j` of image `b`. -/
def phiR (b : Fin 4) (j : Fin 3136) (o : Fin 1792) : ℝ :=
  ∑ k : Fin 256, fineR A0 b j k * A3 (ix2 o ⟨k.val, by omega⟩)
    + (∑ k : Fin 512, midR A1 b j k * A3 (ix2 o ⟨256 + k.val, by omega⟩)
      + (∑ k : Fin 1024, coarseR A2 b j k * A3 (ix2 o ⟨768 + k.val, by omega⟩)
        + (linR (j.val % 56) * A3 (ix2 o ⟨1792, by omega⟩) + linR (j.val / 56) * A3 (ix2 o ⟨1793, by omega⟩))))
    + A4 (ix1 o)

/-- The squared norm of the features. -/
def featR (b : Fin 4) (j : Fin 3136) : ℝ := ∑ o : Fin 1792, phiR A0 A1 A2 A3 A4 b j o * phiR A0 A1 A2 A3 A4 b j o

/-- The squared distance to centre `l`, less the squared norm of the features. -/
def halfR (b : Fin 4) (j : Fin 3136) (l : Fin 3136) : ℝ :=
  ∑ x : Fin 1792, A5 (ix2 x l) * A5 (ix2 x l) - ∑ x : Fin 1792, 2 * phiR A0 A1 A2 A3 A4 b j x * A5 (ix2 x l)

theorem half_eq (b : Fin 4) (j : Fin 3136) (l : Fin 3136) : featR A0 A1 A2 A3 A4 b j + halfR A0 A1 A2 A3 A4 A5 b j l
    = ∑ o : Fin 1792, phiR A0 A1 A2 A3 A4 b j o * phiR A0 A1 A2 A3 A4 b j o + ∑ x : Fin 1792, A5 (ix2 x l) * A5 (ix2 x l)
      - 2 * ∑ x : Fin 1792, phiR A0 A1 A2 A3 A4 b j x * A5 (ix2 x l) := by
  unfold featR halfR
  have e : ∑ x : Fin 1792, 2 * phiR A0 A1 A2 A3 A4 b j x * A5 (ix2 x l) = 2 * ∑ x : Fin 1792, phiR A0 A1 A2 A3 A4 b j x * A5 (ix2 x l) := by
    rw [Finset.mul_sum]
    exact Finset.sum_congr rfl fun x _ => by ring
  rw [e]
  ring

end Cert.Score

end
-- ==== Proof.Score.KernelPhi.lean ====
/- The kernel's features and half distances, as real numbers. -/
module

public import proofs.«01_k».proof.Proof.Score.Out
public import proofs.«01_k».proof.Proof.Score.Host
public import proofs.«01_k».proof.Proof.Score.Phi

@[expose] public section

set_option maxRecDepth 16384

noncomputable section

namespace Cert.Score

open Idealize.ShloMosaic
open Cert.KernelIdeal Cert.KernelIdeal.Gen

theorem sum_alike {n : ℕ} {f g : Fin n → EReal} (h : ∀ i, f i = g i) : ∑ i, f i = ∑ i, g i := Finset.sum_congr rfl fun i _ => h i

/-- The second matrix product's sum, source by source. -/
theorem sum_tail (f : Fin 1024 → EReal) : ∑ x, f x
    = ∑ k : Fin 784, f ⟨k.val, by omega⟩ + (∑ k : Fin 196, f ⟨784 + k.val, by omega⟩ + ∑ k : Fin 28, f ⟨980 + k.val, by omega⟩
      + (f ⟨1008, by omega⟩ + f ⟨1009, by omega⟩ + ∑ k : Fin 14, f ⟨1010 + k.val, by omega⟩)) := by
  rw [sum_split 784 240 1024 rfl f, sum_split 224 16 240 rfl, sum_split 196 28 224 rfl, sum_split 2 14 16 rfl, Fin.sum_univ_two]
  have e : ∀ k : Fin 28, (⟨784 + (196 + k.val), by omega⟩ : Fin 1024) = ⟨980 + k.val, by omega⟩ :=
    fun k => Fin.ext (by show 784 + (196 + k.val) = 980 + k.val; omega)
  have e' : ∀ k : Fin 14, (⟨784 + (224 + (2 + k.val)), by omega⟩ : Fin 1024) = ⟨1010 + k.val, by omega⟩ :=
    fun k => Fin.ext (by show 784 + (224 + (2 + k.val)) = 1010 + k.val; omega)
  simp only [e, e']
  rfl

theorem zero_word : FloatOps.sitofp (F := Ideal) FTy.f32 0#32 = (0 : EReal) := by
  show (((0#32 : BitVec 32).toInt : ℝ) : EReal) = 0
  norm_num

section kc

variable (j : Fin 3136)

theorem kc_mid (k : Fin 784) : kcE j ⟨k.val, by omega⟩ = ((gR 28 (1 / 2) (j.val / 56) (k.val / 28) * gR 28 (1 / 2) (j.val % 56) (k.val % 28) : ℝ) : EReal) := by
  have hj := j.isLt
  have hk := k.isLt
  unfold kcE
  rw [dif_pos (by show k.val < 1008; omega), dif_pos hk, half_word, g_real Scale.mid (j.val / 56) (k.val / 28) (by omega) (by omega),
    g_real Scale.mid (j.val % 56) (k.val % 28) (by omega) (by omega),
    EReal.coe_mul]

theorem kc_coarse (k : Fin 196) : kcE j ⟨784 + k.val, by omega⟩
    = ((gR 14 (1 / 4) (j.val / 56) (k.val / 14) * gR 14 (1 / 4) (j.val % 56) (k.val % 14) : ℝ) : EReal) := by
  have hj := j.isLt
  have hk := k.isLt
  unfold kcE
  rw [dif_pos (by show 784 + k.val < 1008; omega), dif_neg (by show ¬784 + k.val < 784; omega), dif_pos (by show 784 + k.val - 784 < 196; omega)]
  have e : 784 + k.val - 784 = k.val := by omega
  show gE 14 _ _ ((784 + k.val - 784) / 14) * gE 14 _ _ ((784 + k.val - 784) % 14) = _
  rw [e, quarter_word, g_real Scale.coarse _ _ (by omega) (by omega), g_real Scale.coarse _ _ (by omega) (by omega), EReal.coe_mul]

theorem kc_pad (k : Fin 28) : kcE j ⟨980 + k.val, by omega⟩ = 0 := by
  have hk := k.isLt
  unfold kcE
  rw [dif_pos (by show 980 + k.val < 1008; omega), dif_neg (by show ¬980 + k.val < 784; omega), dif_neg (by show ¬980 + k.val - 784 < 196; omega)]
  exact zero_word

theorem kc_x : kcE j ⟨1008, by omega⟩ = (linR (j.val % 56) : EReal) := by
  unfold kcE
  rw [dif_neg (by show ¬1008 < 1008; omega), dif_pos (by show 1008 - 1008 < 2; omega), dif_pos (by show 1008 - 1008 < 1; omega)]
  exact lin_real _ (by omega)

theorem kc_y : kcE j ⟨1009, by omega⟩ = (linR (j.val / 56) : EReal) := by
  have hj := j.isLt
  unfold kcE
  rw [dif_neg (by show ¬1009 < 1008; omega), dif_pos (by show 1009 - 1008 < 2; omega), dif_neg (by show ¬1009 - 1008 < 1; omega)]
  exact lin_real _ (by omega)

theorem kc_end (k : Fin 14) : kcE j ⟨1010 + k.val, by omega⟩ = 0 := by
  unfold kcE
  rw [dif_neg (by show ¬1010 + k.val < 1008; omega), dif_neg (by show ¬1010 + k.val - 1008 < 2; omega)]
  exact zero_word

end kc

variable (m : (ℓ : Loc nD τ sig) → Buf (Elt Ideal) ℓ) (c : Dev nD)
  (A0 : S4x256x56x56.Idx → ℝ) (A1 : S4x512x28x28.Idx → ℝ) (A2 : S4x1024x14x14.Idx → ℝ) (A3 : S1792x1794.Idx → ℝ) (A4 : S1792.Idx → ℝ)
  (A5 : S1792x3136.Idx → ℝ)
  (h0 : ∀ i, (m (c.tc.loc main_arg0) : FVec Ideal S4x256x56x56 .f32) i = (A0 i : EReal))
  (h1 : ∀ i, (m (c.tc.loc main_arg1) : FVec Ideal S4x512x28x28 .f32) i = (A1 i : EReal))
  (h2 : ∀ i, (m (c.tc.loc main_arg2) : FVec Ideal S4x1024x14x14 .f32) i = (A2 i : EReal))
  (h3 : ∀ i, (m (c.tc.loc main_arg3) : FVec Ideal S1792x1794 .f32) i = (A3 i : EReal))
  (h4 : ∀ i, (m (c.tc.loc main_arg4) : FVec Ideal S1792 .f32) i = (A4 i : EReal))
  (h5 : ∀ i, (m (c.tc.loc main_arg5) : FVec Ideal S1792x3136 .f32) i = (A5 i : EReal))

include h3 in
theorem rows_fine (b : Fin 4) (k : Fin 256) (o : Fin 1792) : right m c b ⟨k.val, by omega⟩ o = (A3 (ix2 o ⟨k.val, by omega⟩) : EReal) :=
  (right_fine m c b _ o k (by simp)).trans ((v114_at m c k o).trans (h3 _))

include h1 h3 in
theorem rows_mid (b : Fin 4) (k : Fin 784) (o : Fin 1792) : right m c b ⟨256 + k.val, by omega⟩ o
    = ((∑ x : Fin 512, A1 (ix4 b x ⟨k.val / 28, by omega⟩ ⟨k.val % 28, by omega⟩) * A3 (ix2 o ⟨256 + x.val, by omega⟩) : ℝ) : EReal) := by
  refine (right_mid m c b _ o k rfl).trans ?_
  rw [← sum_real]
  refine sum_alike fun x => ?_
  rw [EReal.coe_mul]
  exact congrArg₂ (fun p q : EReal => p * q) ((v11_at m c b k x).trans (h1 _)) ((v116_at m c x o).trans (h3 _))

include h2 h3 in
theorem rows_coarse (b : Fin 4) (k : Fin 196) (o : Fin 1792) : right m c b ⟨1040 + k.val, by omega⟩ o
    = ((∑ x : Fin 1024, A2 (ix4 b x ⟨k.val / 14, by omega⟩ ⟨k.val % 14, by omega⟩) * A3 (ix2 o ⟨768 + x.val, by omega⟩) : ℝ) : EReal) := by
  refine (right_coarse m c b _ o ⟨k.val, by omega⟩ rfl).trans ?_
  rw [← sum_real]
  refine sum_alike fun x => ?_
  rw [EReal.coe_mul]
  exact congrArg₂ (fun p q : EReal => p * q) (((v15_at m c b ⟨k.val, by omega⟩ x).trans (dif_pos k.isLt)).trans (h2 _)) ((v118_at m c x o).trans (h3 _))

include h3 in
theorem rows_coord (b : Fin 4) (k : Fin 2) (o : Fin 1792) : right m c b ⟨1264 + k.val, by omega⟩ o = (A3 (ix2 o ⟨1792 + k.val, by omega⟩) : EReal) :=
  (right_tail m c b _ o ⟨k.val, by omega⟩ rfl).trans ((dif_pos k.isLt).trans ((v120_at m c k o).trans (h3 _)))

include h0 in
theorem left_fine (b : Fin 4) (j : Fin 3136) (k : Fin 256) :
    (V m c main_call0_v8 : FVec Ideal S4x3136x256 .bf16) (ix3 b j k) = (fineR A0 b j k : EReal) := by
  refine (v8_at m c b j k).trans ?_
  refine Eq.trans ?_ (avg_real (fun u v => A0 (ix4 b k u v)) (j.val / 56) (j.val % 56))
  exact congrArg (fun a => Ideal.div (win9 a (j.val / 56) (j.val % 56)) (Ideal.ofBits FTy.f32 1091567616#32)) (funext fun u => funext fun v => h0 _)

theorem add_same {a b c d : EReal} (h : a = c) (h' : b = d) : a + b = c + d := by rw [h, h']

include h1 h2 h3 in
/-- The second product: the two coarser maps and the coordinates. -/
theorem tail_sum (b : Fin 4) (j : Fin 3136) (o : Fin 1792) :
    ∑ s : Fin 1024, kcE j s * right m c b ⟨256 + s.val, by omega⟩ o
      = ((∑ k : Fin 512, midR A1 b j k * A3 (ix2 o ⟨256 + k.val, by omega⟩)
        + (∑ k : Fin 1024, coarseR A2 b j k * A3 (ix2 o ⟨768 + k.val, by omega⟩)
          + (linR (j.val % 56) * A3 (ix2 o ⟨1792, by omega⟩) + linR (j.val / 56) * A3 (ix2 o ⟨1793, by omega⟩))) : ℝ) : EReal) := by
  rw [sum_tail, EReal.coe_add, EReal.coe_add]
  refine add_same ?_ (add_same ?_ ?_)
  · have e := sum_swap 28 784 512 rfl (fun s => by omega) (fun s => by omega)
      (fun u v => gR 28 (1 / 2) (j.val / 56) u.val * gR 28 (1 / 2) (j.val % 56) v.val) (fun k u v => A1 (ix4 b k u v))
      (fun k => A3 (ix2 o ⟨256 + k.val, by omega⟩))
    unfold midR upR
    rw [← e, ← sum_real]
    refine sum_alike fun s => ?_
    rw [EReal.coe_mul, kc_mid]
    exact congrArg _ (rows_mid m c A1 A3 h1 h3 b s o)
  · have e := sum_swap 14 196 1024 rfl (fun s => by omega) (fun s => by omega)
      (fun u v => gR 14 (1 / 4) (j.val / 56) u.val * gR 14 (1 / 4) (j.val % 56) v.val) (fun k u v => A2 (ix4 b k u v))
      (fun k => A3 (ix2 o ⟨768 + k.val, by omega⟩))
    have ez : ∑ k : Fin 28, kcE j ⟨980 + k.val, by omega⟩ * right m c b ⟨256 + (980 + k.val), by omega⟩ o = 0 :=
      Finset.sum_eq_zero fun k _ => by rw [kc_pad, zero_mul]
    refine (add_same rfl ez).trans ((add_zero _).trans ?_)
    unfold coarseR upR
    rw [← e, ← sum_real]
    refine sum_alike fun s => ?_
    rw [EReal.coe_mul, kc_coarse]
    have er : (⟨256 + (784 + s.val), by omega⟩ : Fin 1280) = ⟨1040 + s.val, by omega⟩ := Fin.ext (by show 256 + (784 + s.val) = 1040 + s.val; omega)
    rw [er]
    exact congrArg _ (rows_coarse m c A2 A3 h2 h3 b s o)
  · have ez : ∑ k : Fin 14, kcE j ⟨1010 + k.val, by omega⟩ * right m c b ⟨256 + (1010 + k.val), by omega⟩ o = 0 :=
      Finset.sum_eq_zero fun k _ => by rw [kc_end, zero_mul]
    refine (add_same rfl ez).trans ((add_zero _).trans ?_)
    rw [EReal.coe_add, EReal.coe_mul, EReal.coe_mul, kc_x, kc_y]
    exact add_same (congrArg _ (rows_coord m c A3 h3 b 0 o)) (congrArg _ (rows_coord m c A3 h3 b 1 o))

include h0 h1 h2 h3 h4 in
/-- The features of a row. -/
theorem kernel_phi (t : Fin cfg0.N) (r : Fin 784) (o : Fin 1792) (W : FVec Ideal S1280x1792 .bf16) (hW : ∀ s o, W (ix2 s o) = right m c (image t) s o) :
    k0_pay14 (F := Ideal) (iblk m c 0 t) (iblk m c 1 t) W (iblk m c 8 t) (ix2 r o) = (phiR A0 A1 A2 A3 A4 (image t) (place t r) o : EReal) := by
  refine (phi_at _ _ _ _ r o).trans ?_
  unfold phiR
  rw [EReal.coe_add, EReal.coe_add, ← tail_sum m c A1 A2 A3 h1 h2 h3, ← sum_real]
  refine add_same (add_same (sum_alike fun k => ?_) (sum_alike fun k => ?_)) ?_
  · rw [EReal.coe_mul]
    exact congrArg₂ (fun p q : EReal => p * q) ((blk0 m c t r k).trans (left_fine m c A0 h0 _ _ k)) ((hW _ o).trans (rows_fine m c A3 h3 _ k o))
  · exact congrArg₂ (fun p q : EReal => p * q) ((blk1 m c t r k).trans (v111_at m c _ k)) (hW _ o)
  · exact (blk8 m c t o).trans ((v121_at m c o).trans (h4 _))

include h0 h1 h2 h3 h4 in
theorem kernel_feat (t : Fin cfg0.N) (r : Fin 784) (W : FVec Ideal S1280x1792 .bf16) (hW : ∀ s o, W (ix2 s o) = right m c (image t) s o) :
    k0_pay15 (F := Ideal) (iblk m c 0 t) (iblk m c 1 t) W (iblk m c 8 t) (ix2 r 0) = (featR A0 A1 A2 A3 A4 (image t) (place t r) : EReal) := by
  refine (feat_at _ _ _ _ r).trans ?_
  unfold featR
  rw [← sum_real]
  refine sum_alike fun o => ?_
  rw [EReal.coe_mul, kernel_phi m c A0 A1 A2 A3 A4 h0 h1 h2 h3 h4 t r o W hW]

include h0 h1 h2 h3 h4 in
theorem kernel_twice (t : Fin cfg0.N) (r : Fin 784) (o : Fin 1792) (W : FVec Ideal S1280x1792 .bf16) (hW : ∀ s o, W (ix2 s o) = right m c (image t) s o) :
    k0_pay16 (F := Ideal) (iblk m c 0 t) (iblk m c 1 t) W (iblk m c 8 t) (ix2 r o) = ((2 * phiR A0 A1 A2 A3 A4 (image t) (place t r) o : ℝ) : EReal) := by
  refine (twice_at _ _ _ _ r o).trans ?_
  rw [kernel_phi m c A0 A1 A2 A3 A4 h0 h1 h2 h3 h4 t r o W hW, two_word, EReal.coe_mul]

include h0 h1 h2 h3 h4 h5 in
theorem kernel_half (t : Fin cfg0.N) (r : Fin 784) (l : Fin 3136) (W : FVec Ideal S1280x1792 .bf16) (hW : ∀ s o, W (ix2 s o) = right m c (image t) s o) :
    norms m c l - ∑ x : Fin 1792, k0_pay16 (F := Ideal) (iblk m c 0 t) (iblk m c 1 t) W (iblk m c 8 t) (ix2 r x) * centre m c x l
      = (halfR A0 A1 A2 A3 A4 A5 (image t) (place t r) l : EReal) := by
  have hc : ∀ x, centre m c x l = (A5 (ix2 x l) : EReal) := fun x => (v122_at m c x l).trans (h5 _)
  unfold halfR norms
  rw [EReal.coe_sub, ← sum_real, ← sum_real]
  refine congrArg₂ (fun p q : EReal => p - q) (sum_alike fun x => ?_) (sum_alike fun x => ?_)
  · rw [EReal.coe_mul, hc]
  · rw [EReal.coe_mul, kernel_twice m c A0 A1 A2 A3 A4 h0 h1 h2 h3 h4 t r x W hW, hc]

include h0 h1 h2 h3 h4 h5 in
/-- What a point stores at a row: the score of the row's half distances. -/
theorem kernel_scores (t : Fin cfg0.N) (r : Fin 784) :
    Scores (fun l => (halfR A0 A1 A2 A3 A4 A5 (image t) (place t r) l : EReal)) (featR A0 A1 A2 A3 A4 (image t) (place t r) : EReal)
      ((outsAt0 m c t.val t.isLt).1 (ix3 0 r 0)) := by
  obtain ⟨W, hW, hs⟩ := out_at m c t r
  have hh := fun l => kernel_half m c A0 A1 A2 A3 A4 A5 h0 h1 h2 h3 h4 h5 t r l W hW
  have hf := kernel_feat m c A0 A1 A2 A3 A4 h0 h1 h2 h3 h4 t r W hW
  have hs' := hs fun l => by rw [hh l]; exact EReal.coe_lt_top _
  rw [hf] at hs'
  rwa [funext hh] at hs'

end Cert.Score

end
-- ==== Proof.Score.Ref.lean ====
/- The reference's interpolation weights, coordinates and descriptor maps, as real numbers. -/
module

public import proofs.«01_k».proof.Proof.Gen.ReferenceIdeal.Run
public import proofs.«01_k».proof.Proof.Score.Box
public import Idealize.ShloMosaic.Lib.Pointwise
public import Idealize.ShloMosaic.Lib.ValueIdx
public import Idealize.ShloMosaic.Lib.Claim

@[expose] public section

set_option maxRecDepth 16384

noncomputable section

namespace Cert.Score

open Idealize.ShloMosaic
open Cert.ReferenceIdeal Cert.ReferenceIdeal.Gen Cert.ReferenceIdeal.Value

/-! ## Constants -/

theorem low_word : Ideal.ofBits .f32 3204448256#32 = ((-1 / 2 : ℝ) : EReal) := by
  simp [Ideal.ofBits, Ideal.ieee]
  rw [← EReal.coe_mul, ← EReal.coe_neg]
  norm_num
theorem high28_word : Ideal.ofBits .f32 1104936960#32 = ((55 / 2 : ℝ) : EReal) := by
  simp [Ideal.ofBits, Ideal.ieee]
  rw [← EReal.coe_mul]
  norm_num
theorem high14_word : Ideal.ofBits .f32 1096286208#32 = ((27 / 2 : ℝ) : EReal) := by
  simp [Ideal.ofBits, Ideal.ieee]
  rw [← EReal.coe_mul]
  norm_num
theorem small_word : Ideal.ofBits .f32 955908096#32 = ((125 / 1048576 : ℝ) : EReal) := by
  simp [Ideal.ofBits, Ideal.ieee]
  rw [← EReal.coe_mul]
  norm_num

theorem sum_same {n : ℕ} {f g : Fin n → EReal} (h : ∀ i, f i = g i) : ∑ i, f i = ∑ i, g i := Finset.sum_congr rfl fun i _ => h i

/-! ## Weights -/

/-- A weight the way the reference computes it: from the sample position, the tent and the tents' sum. -/
def weightE (hi p tot hat : EReal) : EReal :=
  Scalar.select (IntOp.andi (BitVec.ofBool (decide (Ideal.ofBits FTy.f32 3204448256#32 ≤ p))) (BitVec.ofBool (decide (p ≤ hi))))
    (if Ideal.ofBits FTy.f32 955908096#32 < absE tot then Ideal.div hat (if tot ≠ 0 then tot else FloatOps.sitofp (F := Ideal) FTy.f32 1#32)
      else FloatOps.sitofp (F := Ideal) FTy.f32 0#32) (FloatOps.sitofp (F := Ideal) FTy.f32 0#32)

theorem weight_real {n : ℕ} {s : ℝ} (h : Scale n s) (y x : ℕ) (hy : y < 56) (hi p tot hat : EReal)
    (hp : p = (((y : ℝ) + 1 / 2) * s - 1 / 2 : ℝ)) (ht : tot = (totR n s y : EReal)) (hh : hat = (hatR s y x : EReal))
    (hhi : hi = ((n : ℝ) - 1 / 2 : ℝ)) : weightE hi p tot hat = (wR n s y x : EReal) := by
  have hT := tot_ge h y hy
  have hY : (y : ℝ) ≤ 55 := by exact_mod_cast Nat.le_of_lt_succ hy
  have hY0 : (0 : ℝ) ≤ y := Nat.cast_nonneg y
  have c1 : Ideal.ofBits FTy.f32 3204448256#32 ≤ p := by
    rw [low_word, hp]
    refine EReal.coe_le_coe_iff.2 ?_
    cases h <;> linarith
  have c2 : p ≤ hi := by
    rw [hhi, hp]
    refine EReal.coe_le_coe_iff.2 ?_
    cases h <;> push_cast <;> linarith
  have c3 : Ideal.ofBits FTy.f32 955908096#32 < absE tot := by
    rw [small_word, ht, abs_real]
    refine EReal.coe_lt_coe_iff.2 (lt_of_lt_of_le ?_ (hT.trans (le_abs_self _)))
    norm_num
  have c4 : tot ≠ 0 := by
    rw [ht]
    exact fun e => tot_ne h y hy (EReal.coe_eq_zero.1 e)
  unfold weightE
  rw [decide_eq_true c1, decide_eq_true c2, if_pos c3, if_pos c4, hh, ht, div_real _ _ (tot_ne h y hy)]
  rfl

variable (V0 : Valuation τ sig (Elt Ideal))

theorem pos0 (y : Fin 56) : (res_main_call0_v8 V0 : FVec Ideal S56 .f32) (ix1 y) = ((((y.val : ℝ) + 1 / 2) * (1 / 2) - 1 / 2 : ℝ) : EReal) := by
  pointwise [res_main_call0_v8]
  have e : (FloatOps.sitofp (F := Ideal) FTy.f32 (BitVec.ofNat 32 y.val) : EReal) = ((y.val : ℝ) : EReal) := nat_word y.val (by omega)
  rw [e, half_word]
  simp only [← EReal.coe_add, ← EReal.coe_mul, ← EReal.coe_sub]

theorem hat0 (x : Fin 28) (y : Fin 56) : (res_main_call0_v22 V0 : FVec Ideal S28x56 .f32) (ix2 x y) = (hatR (1 / 2) y.val x.val : EReal) := by
  pointwise [res_main_call0_v22]
  have e : (FloatOps.sitofp (F := Ideal) FTy.f32 (BitVec.ofNat 32 x.val) : EReal) = ((x.val : ℝ) : EReal) := nat_word x.val (by omega)
  rw [e, pos0]
  show max 0 (1 - absE (Ideal.div (absE _) 1)) = _
  rw [← EReal.coe_sub, abs_real, ← EReal.coe_one, div_real _ _ one_ne_zero, abs_real, ← EReal.coe_sub, ← EReal.coe_zero, max_real, div_one, abs_abs]
  rfl

theorem tot0 (y : Fin 56) : (res_main_call0_v24 V0 : FVec Ideal S1x56 .f32) (ix2 0 y) = (totR 28 (1 / 2) y.val : EReal) := by
  pointwise [res_main_call0_v24]
  show (∑ x : Fin 28, (res_main_call0_v22 V0 : FVec Ideal S28x56 .f32) (ix2 x y) : EReal) = _
  unfold totR
  rw [← sum_real]
  exact Finset.sum_congr rfl fun x _ => hat0 V0 x y

theorem weight0 (x : Fin 28) (y : Fin 56) :
    weightE (Ideal.ofBits FTy.f32 1104936960#32) ((res_main_call0_v8 V0 : FVec Ideal S56 .f32) (ix1 y)) ((res_main_call0_v24 V0 : FVec Ideal S1x56 .f32) (ix2 0 y))
      ((res_main_call0_v22 V0 : FVec Ideal S28x56 .f32) (ix2 x y)) = (wR 28 (1 / 2) y.val x.val : EReal) :=
  weight_real Scale.mid y.val x.val y.isLt _ _ _ _ (pos0 V0 y) (tot0 V0 y) (hat0 V0 x y) (by rw [high28_word]; norm_num)

theorem pos1 (y : Fin 56) : (res_main_call1_v8 V0 : FVec Ideal S56 .f32) (ix1 y) = ((((y.val : ℝ) + 1 / 2) * (1 / 2) - 1 / 2 : ℝ) : EReal) := by
  pointwise [res_main_call1_v8]
  have e : (FloatOps.sitofp (F := Ideal) FTy.f32 (BitVec.ofNat 32 y.val) : EReal) = ((y.val : ℝ) : EReal) := nat_word y.val (by omega)
  rw [e, half_word]
  simp only [← EReal.coe_add, ← EReal.coe_mul, ← EReal.coe_sub]

theorem hat1 (x : Fin 28) (y : Fin 56) : (res_main_call1_v22 V0 : FVec Ideal S28x56 .f32) (ix2 x y) = (hatR (1 / 2) y.val x.val : EReal) := by
  pointwise [res_main_call1_v22]
  have e : (FloatOps.sitofp (F := Ideal) FTy.f32 (BitVec.ofNat 32 x.val) : EReal) = ((x.val : ℝ) : EReal) := nat_word x.val (by omega)
  rw [e, pos1]
  show max 0 (1 - absE (Ideal.div (absE _) 1)) = _
  rw [← EReal.coe_sub, abs_real, ← EReal.coe_one, div_real _ _ one_ne_zero, abs_real, ← EReal.coe_sub, ← EReal.coe_zero, max_real, div_one, abs_abs]
  rfl

theorem tot1 (y : Fin 56) : (res_main_call1_v24 V0 : FVec Ideal S1x56 .f32) (ix2 0 y) = (totR 28 (1 / 2) y.val : EReal) := by
  pointwise [res_main_call1_v24]
  show (∑ x : Fin 28, (res_main_call1_v22 V0 : FVec Ideal S28x56 .f32) (ix2 x y) : EReal) = _
  unfold totR
  rw [← sum_real]
  exact Finset.sum_congr rfl fun x _ => hat1 V0 x y

theorem weight1 (x : Fin 28) (y : Fin 56) :
    weightE (Ideal.ofBits FTy.f32 1104936960#32) ((res_main_call1_v8 V0 : FVec Ideal S56 .f32) (ix1 y)) ((res_main_call1_v24 V0 : FVec Ideal S1x56 .f32) (ix2 0 y))
      ((res_main_call1_v22 V0 : FVec Ideal S28x56 .f32) (ix2 x y)) = (wR 28 (1 / 2) y.val x.val : EReal) :=
  weight_real Scale.mid y.val x.val y.isLt _ _ _ _ (pos1 V0 y) (tot1 V0 y) (hat1 V0 x y) (by rw [high28_word]; norm_num)

theorem pos2 (y : Fin 56) : (res_main_call2_v8 V0 : FVec Ideal S56 .f32) (ix1 y) = ((((y.val : ℝ) + 1 / 2) * (1 / 4) - 1 / 2 : ℝ) : EReal) := by
  pointwise [res_main_call2_v8]
  have e : (FloatOps.sitofp (F := Ideal) FTy.f32 (BitVec.ofNat 32 y.val) : EReal) = ((y.val : ℝ) : EReal) := nat_word y.val (by omega)
  rw [e, half_word, quarter_word]
  simp only [← EReal.coe_add, ← EReal.coe_mul, ← EReal.coe_sub]

theorem hat2 (x : Fin 14) (y : Fin 56) : (res_main_call2_v22 V0 : FVec Ideal S14x56 .f32) (ix2 x y) = (hatR (1 / 4) y.val x.val : EReal) := by
  pointwise [res_main_call2_v22]
  have e : (FloatOps.sitofp (F := Ideal) FTy.f32 (BitVec.ofNat 32 x.val) : EReal) = ((x.val : ℝ) : EReal) := nat_word x.val (by omega)
  rw [e, pos2]
  show max 0 (1 - absE (Ideal.div (absE _) 1)) = _
  rw [← EReal.coe_sub, abs_real, ← EReal.coe_one, div_real _ _ one_ne_zero, abs_real, ← EReal.coe_sub, ← EReal.coe_zero, max_real, div_one, abs_abs]
  rfl

theorem tot2 (y : Fin 56) : (res_main_call2_v24 V0 : FVec Ideal S1x56 .f32) (ix2 0 y) = (totR 14 (1 / 4) y.val : EReal) := by
  pointwise [res_main_call2_v24]
  show (∑ x : Fin 14, (res_main_call2_v22 V0 : FVec Ideal S14x56 .f32) (ix2 x y) : EReal) = _
  unfold totR
  rw [← sum_real]
  exact Finset.sum_congr rfl fun x _ => hat2 V0 x y

theorem weight2 (x : Fin 14) (y : Fin 56) :
    weightE (Ideal.ofBits FTy.f32 1096286208#32) ((res_main_call2_v8 V0 : FVec Ideal S56 .f32) (ix1 y)) ((res_main_call2_v24 V0 : FVec Ideal S1x56 .f32) (ix2 0 y))
      ((res_main_call2_v22 V0 : FVec Ideal S14x56 .f32) (ix2 x y)) = (wR 14 (1 / 4) y.val x.val : EReal) :=
  weight_real Scale.coarse y.val x.val y.isLt _ _ _ _ (pos2 V0 y) (tot2 V0 y) (hat2 V0 x y) (by rw [high14_word]; norm_num)

theorem pos3 (y : Fin 56) : (res_main_call3_v8 V0 : FVec Ideal S56 .f32) (ix1 y) = ((((y.val : ℝ) + 1 / 2) * (1 / 4) - 1 / 2 : ℝ) : EReal) := by
  pointwise [res_main_call3_v8]
  have e : (FloatOps.sitofp (F := Ideal) FTy.f32 (BitVec.ofNat 32 y.val) : EReal) = ((y.val : ℝ) : EReal) := nat_word y.val (by omega)
  rw [e, half_word, quarter_word]
  simp only [← EReal.coe_add, ← EReal.coe_mul, ← EReal.coe_sub]

theorem hat3 (x : Fin 14) (y : Fin 56) : (res_main_call3_v22 V0 : FVec Ideal S14x56 .f32) (ix2 x y) = (hatR (1 / 4) y.val x.val : EReal) := by
  pointwise [res_main_call3_v22]
  have e : (FloatOps.sitofp (F := Ideal) FTy.f32 (BitVec.ofNat 32 x.val) : EReal) = ((x.val : ℝ) : EReal) := nat_word x.val (by omega)
  rw [e, pos3]
  show max 0 (1 - absE (Ideal.div (absE _) 1)) = _
  rw [← EReal.coe_sub, abs_real, ← EReal.coe_one, div_real _ _ one_ne_zero, abs_real, ← EReal.coe_sub, ← EReal.coe_zero, max_real, div_one, abs_abs]
  rfl

theorem tot3 (y : Fin 56) : (res_main_call3_v24 V0 : FVec Ideal S1x56 .f32) (ix2 0 y) = (totR 14 (1 / 4) y.val : EReal) := by
  pointwise [res_main_call3_v24]
  show (∑ x : Fin 14, (res_main_call3_v22 V0 : FVec Ideal S14x56 .f32) (ix2 x y) : EReal) = _
  unfold totR
  rw [← sum_real]
  exact Finset.sum_congr rfl fun x _ => hat3 V0 x y

theorem weight3 (x : Fin 14) (y : Fin 56) :
    weightE (Ideal.ofBits FTy.f32 1096286208#32) ((res_main_call3_v8 V0 : FVec Ideal S56 .f32) (ix1 y)) ((res_main_call3_v24 V0 : FVec Ideal S1x56 .f32) (ix2 0 y))
      ((res_main_call3_v22 V0 : FVec Ideal S14x56 .f32) (ix2 x y)) = (wR 14 (1 / 4) y.val x.val : EReal) :=
  weight_real Scale.coarse y.val x.val y.isLt _ _ _ _ (pos3 V0 y) (tot3 V0 y) (hat3 V0 x y) (by rw [high14_word]; norm_num)

/-- The fine part of the descriptor maps. -/
theorem ref_fine (A : S4x256x56x56.Idx → ℝ) (hA : ∀ i, (V0 (Proc.devRef .tc main_arg0) : FVec Ideal S4x256x56x56 .f32) i = (A i : EReal))
    (b : Fin 4) (k : Fin 256) (y x : Fin 56) : (res_main_v17 V0 : FVec Ideal S4x1792x56x56 .f32) (ix4 b ⟨k.val, by omega⟩ y x)
      = (avgR (fun u v => A (ix4 b k u v)) y.val x.val : EReal) := by
  have hz : (broadcastInDim S_ ![] bcast_S_S_ (constant (F := Ideal) S_ FTy.f32 0#32) (Shape.Idx.first h_S_) : EReal) = 0 := Ideal.ofBits_zero_f32
  have hk := k.isLt
  pointwise [res_main_v17]
  rw [dif_pos (by omega)]
  refine Eq.trans ?_ (avg_real (fun u v => A (ix4 b k u v)) y.val x.val)
  refine congrArg (fun z => Ideal.div z (Ideal.ofBits FTy.f32 1091567616#32)) ?_
  rw [Host.reduceWindowAdd, Ideal.hostReduceWindowAdd_def]
  refine (congrArg (fun z => Ideal.hostReduceWindowAdd _ _ _ _ _ _ z _) hz).trans ?_
  refine (window_first _ b y x k _).trans ?_
  exact congrArg (fun a => win9 a y.val x.val) (funext fun u => funext fun v => hA _)

/-- The mid part of the descriptor maps. -/
theorem ref_mid (A : S4x512x28x28.Idx → ℝ) (hA : ∀ i, (V0 (Proc.devRef .tc main_arg1) : FVec Ideal S4x512x28x28 .f32) i = (A i : EReal))
    (b : Fin 4) (k : Fin 512) (y x : Fin 56) : (res_main_v17 V0 : FVec Ideal S4x1792x56x56 .f32) (ix4 b ⟨256 + k.val, by omega⟩ y x)
      = (upR 28 (1 / 2) (fun u v => A (ix4 b k u v)) y.val x.val : EReal) := by
  have hz : (broadcastInDim S_ ![] bcast_S_S_ (constant (F := Ideal) S_ FTy.f32 0#32) (Shape.Idx.first h_S_) : EReal) = 0 := Ideal.ofBits_zero_f32
  have hk := k.isLt
  have hw : ∀ u v : Fin 28, Ideal.div ((Host.reduceWindowAdd ![1, 1, 3, 3] ![1, 1, 1, 1] ![0, 0, 1, 1] ![0, 0, 1, 1] (V0 (Proc.devRef .tc main_arg1) : FVec Ideal S4x512x28x28 .f32)
      (broadcastInDim S_ ![] bcast_S_S_ (constant (F := Ideal) S_ FTy.f32 0#32)) reduceWindows_S4x512x28x28_S4x512x28x28_w1s1p0_0_w1s1p0_0_w3s1p1_1_w3s1p1_1 h_S_ : FVec Ideal S4x512x28x28 .f32) (ix4 b k u v)) (Ideal.ofBits FTy.f32 1091567616#32)
      = (avgR (fun u v => A (ix4 b k u v)) u.val v.val : EReal) := by
    intro u v
    refine Eq.trans ?_ (avg_real (fun u v => A (ix4 b k u v)) u.val v.val)
    refine congrArg (fun z => Ideal.div z (Ideal.ofBits FTy.f32 1091567616#32)) ?_
    rw [Host.reduceWindowAdd, Ideal.hostReduceWindowAdd_def]
    refine (congrArg (fun z => Ideal.hostReduceWindowAdd _ _ _ _ _ _ z _) hz).trans ?_
    refine (window_first _ b u v k _).trans ?_
    exact congrArg (fun a => win9 a u.val v.val) (funext fun u => funext fun v => hA _)
  pointwise [res_main_v17]
  rw [dif_pos (by omega)]
  rw [← up_eq, ← sum_real]
  refine sum_same fun v => ?_
  rw [EReal.coe_mul, ← sum_real]
  refine congrArg₂ (fun p q : EReal => p * q) (sum_same fun u => ?_) (weight1 V0 v x)
  rw [EReal.coe_mul]
  refine congrArg₂ (fun p q : EReal => p * q) (weight0 V0 u y) ?_
  exact hw u v

/-- The coarse part of the descriptor maps. -/
theorem ref_coarse (A : S4x1024x14x14.Idx → ℝ) (hA : ∀ i, (V0 (Proc.devRef .tc main_arg2) : FVec Ideal S4x1024x14x14 .f32) i = (A i : EReal))
    (b : Fin 4) (k : Fin 1024) (y x : Fin 56) : (res_main_v17 V0 : FVec Ideal S4x1792x56x56 .f32) (ix4 b ⟨768 + k.val, by omega⟩ y x)
      = (upR 14 (1 / 4) (fun u v => A (ix4 b k u v)) y.val x.val : EReal) := by
  have hz : (broadcastInDim S_ ![] bcast_S_S_ (constant (F := Ideal) S_ FTy.f32 0#32) (Shape.Idx.first h_S_) : EReal) = 0 := Ideal.ofBits_zero_f32
  have hk := k.isLt
  have hw : ∀ u v : Fin 14, Ideal.div ((Host.reduceWindowAdd ![1, 1, 3, 3] ![1, 1, 1, 1] ![0, 0, 1, 1] ![0, 0, 1, 1] (V0 (Proc.devRef .tc main_arg2) : FVec Ideal S4x1024x14x14 .f32)
      (broadcastInDim S_ ![] bcast_S_S_ (constant (F := Ideal) S_ FTy.f32 0#32)) reduceWindows_S4x1024x14x14_S4x1024x14x14_w1s1p0_0_w1s1p0_0_w3s1p1_1_w3s1p1_1 h_S_ : FVec Ideal S4x1024x14x14 .f32) (ix4 b k u v)) (Ideal.ofBits FTy.f32 1091567616#32)
      = (avgR (fun u v => A (ix4 b k u v)) u.val v.val : EReal) := by
    intro u v
    refine Eq.trans ?_ (avg_real (fun u v => A (ix4 b k u v)) u.val v.val)
    refine congrArg (fun z => Ideal.div z (Ideal.ofBits FTy.f32 1091567616#32)) ?_
    rw [Host.reduceWindowAdd, Ideal.hostReduceWindowAdd_def]
    refine (congrArg (fun z => Ideal.hostReduceWindowAdd _ _ _ _ _ _ z _) hz).trans ?_
    refine (window_first _ b u v k _).trans ?_
    exact congrArg (fun a => win9 a u.val v.val) (funext fun u => funext fun v => hA _)
  pointwise [res_main_v17]
  rw [← up_eq, ← sum_real]
  refine sum_same fun v => ?_
  rw [EReal.coe_mul, ← sum_real]
  refine congrArg₂ (fun p q : EReal => p * q) (sum_same fun u => ?_) (weight3 V0 v x)
  rw [EReal.coe_mul]
  refine congrArg₂ (fun p q : EReal => p * q) (weight2 V0 u y) ?_
  exact hw u v

end Cert.Score

end
-- ==== Proof.Score.RefPhi.lean ====
/- The reference's features and distances, as real numbers. -/
module

public import proofs.«01_k».proof.Proof.Score.Ref
public import proofs.«01_k».proof.Proof.Score.Phi

@[expose] public section

set_option maxRecDepth 16384

noncomputable section

namespace Cert.Score

open Idealize.ShloMosaic
open Cert.ReferenceIdeal Cert.ReferenceIdeal.Gen Cert.ReferenceIdeal.Value

/-- The features' sum, source by source. -/
theorem sum_sources (f : Fin 1794 → EReal) : ∑ x, f x
    = ∑ k : Fin 256, f ⟨k.val, by omega⟩ + (∑ k : Fin 512, f ⟨256 + k.val, by omega⟩
      + (∑ k : Fin 1024, f ⟨768 + k.val, by omega⟩ + (f ⟨1792, by omega⟩ + f ⟨1793, by omega⟩))) := by
  rw [sum_split 256 1538 1794 rfl f, sum_split 512 1026 1538 rfl, sum_split 1024 2 1026 rfl, Fin.sum_univ_two]
  have e : ∀ k : Fin 1024, (⟨256 + (512 + k.val), by omega⟩ : Fin 1794) = ⟨768 + k.val, by omega⟩ :=
    fun k => Fin.ext (by show 256 + (512 + k.val) = 768 + k.val; omega)
  simp only [e]
  rfl

/-- The same for real weights against real sources. -/
theorem sources_real (w F : Fin 1794 → EReal) (W : Fin 1794 → ℝ) (f : Fin 256 → ℝ) (g : Fin 512 → ℝ) (h : Fin 1024 → ℝ) (p q : ℝ)
    (hw : ∀ x, w x = (W x : EReal)) (hf : ∀ k : Fin 256, F ⟨k.val, by omega⟩ = (f k : EReal)) (hg : ∀ k : Fin 512, F ⟨256 + k.val, by omega⟩ = (g k : EReal))
    (hh : ∀ k : Fin 1024, F ⟨768 + k.val, by omega⟩ = (h k : EReal)) (hp : F ⟨1792, by omega⟩ = (p : EReal)) (hq : F ⟨1793, by omega⟩ = (q : EReal)) :
    ∑ x, w x * F x = ((∑ k : Fin 256, f k * W ⟨k.val, by omega⟩ + (∑ k : Fin 512, g k * W ⟨256 + k.val, by omega⟩
      + (∑ k : Fin 1024, h k * W ⟨768 + k.val, by omega⟩ + (p * W ⟨1792, by omega⟩ + q * W ⟨1793, by omega⟩))) : ℝ) : EReal) := by
  rw [sum_sources]
  simp only [hw, hf, hg, hh, hp, hq, ← EReal.coe_mul, sum_real, ← EReal.coe_add]
  simp only [mul_comm]

variable (V0 : Valuation τ sig (Elt Ideal))

theorem low4 : ((res_main_call4_v0 V0 : FVec Ideal S_ .f32) ix0 : EReal) = Ideal.ofBits .f32 3212836864#32 := by
  pointwise [res_main_call4_v0]
  rfl
theorem high4 : (res_main_call4_v1 V0 : FVec Ideal S_ .f32) ix0 = (1 : EReal) := by
  pointwise [res_main_call4_v1]
  exact Ideal.ofBits_one_f32
theorem step4 (i : Fin 55) : ((res_main_call4_v6 V0 : FVec Ideal S55 .f32) (ix1 i) : EReal) = Ideal.div (natE i.val) (Ideal.ofBits FTy.f32 1113325568#32) := by
  pointwise [res_main_call4_v6]
  rfl
theorem low5 : ((res_main_call5_v0 V0 : FVec Ideal S_ .f32) ix0 : EReal) = Ideal.ofBits .f32 3212836864#32 := by
  pointwise [res_main_call5_v0]
  rfl
theorem high5 : (res_main_call5_v1 V0 : FVec Ideal S_ .f32) ix0 = (1 : EReal) := by
  pointwise [res_main_call5_v1]
  exact Ideal.ofBits_one_f32
theorem step5 (i : Fin 55) : ((res_main_call5_v6 V0 : FVec Ideal S55 .f32) (ix1 i) : EReal) = Ideal.div (natE i.val) (Ideal.ofBits FTy.f32 1113325568#32) := by
  pointwise [res_main_call5_v6]
  rfl

/-- The coordinate of a line, from its ends. -/
theorem lin_of (n : ℕ) (hn : n < 56) (lo hi : EReal) (t : Fin 55 → EReal) (hlo : lo = Ideal.ofBits .f32 3212836864#32) (hhi : hi = 1)
    (ht : ∀ i, t i = Ideal.div (natE i.val) (Ideal.ofBits FTy.f32 1113325568#32)) :
    (if h : n < 55 then lo * (1 - t ⟨n, h⟩) + hi * t ⟨n, h⟩ else hi) = (linR n : EReal) := by
  rw [← lin_real n hn]
  unfold linE
  by_cases h : n < 55
  · rw [dif_pos h, dif_pos h, hlo, hhi, ht, one_mul]
  · rw [dif_neg h, dif_neg h, hhi]

variable (A0 : S4x256x56x56.Idx → ℝ) (A1 : S4x512x28x28.Idx → ℝ) (A2 : S4x1024x14x14.Idx → ℝ) (A3 : S1792x1794.Idx → ℝ) (A4 : S1792.Idx → ℝ)
  (A5 : S1792x3136.Idx → ℝ)
  (h0 : ∀ i, (V0 (Proc.devRef .tc main_arg0) : FVec Ideal S4x256x56x56 .f32) i = (A0 i : EReal))
  (h1 : ∀ i, (V0 (Proc.devRef .tc main_arg1) : FVec Ideal S4x512x28x28 .f32) i = (A1 i : EReal))
  (h2 : ∀ i, (V0 (Proc.devRef .tc main_arg2) : FVec Ideal S4x1024x14x14 .f32) i = (A2 i : EReal))
  (h3 : ∀ i, (V0 (Proc.devRef .tc main_arg3) : FVec Ideal S1792x1794 .f32) i = (A3 i : EReal))
  (h4 : ∀ i, (V0 (Proc.devRef .tc main_arg4) : FVec Ideal S1792 .f32) i = (A4 i : EReal))
  (h5 : ∀ i, (V0 (Proc.devRef .tc main_arg5) : FVec Ideal S1792x3136 .f32) i = (A5 i : EReal))

include h0 h1 h2 h3 h4 in
/-- The reference's features. -/
theorem ref_phi (b : Fin 4) (j : Fin 3136) (o : Fin 1792) :
    (res_main_v31 V0 : FVec Ideal S4x3136x1792 .f32) (ix3 b j o) = (phiR A0 A1 A2 A3 A4 b j o : EReal) := by
  have hj := j.isLt
  pointwise [res_main_v31]
  refine Eq.trans ?_ (EReal.coe_add _ _).symm
  refine congrArg₂ (fun p q : EReal => p + q) ?_ (h4 _)
  refine sources_real _ _ (fun x => A3 (ix2 o x)) _ _ _ _ _ (fun x => h3 _) (fun k => ?_) (fun k => ?_) (fun k => ?_) ?_ ?_
  · exact (dif_pos (by show k.val < 1792; omega)).trans (ref_fine V0 A0 h0 b k ⟨j.val / 56, by omega⟩ ⟨j.val % 56, by omega⟩)
  · exact (dif_pos (by show 256 + k.val < 1792; omega)).trans (ref_mid V0 A1 h1 b k ⟨j.val / 56, by omega⟩ ⟨j.val % 56, by omega⟩)
  · exact (dif_pos (by show 768 + k.val < 1792; omega)).trans (ref_coarse V0 A2 h2 b k ⟨j.val / 56, by omega⟩ ⟨j.val % 56, by omega⟩)
  · refine (dif_neg (by show ¬1792 < 1792; omega)).trans ?_
    refine (dif_pos (by show 1792 - 1792 < 1; omega)).trans ?_
    exact lin_of (j.val % 56) (by omega) _ _ (fun i => (res_main_call4_v6 V0 : FVec Ideal S55 .f32) (ix1 i)) (low4 V0) (high4 V0) (step4 V0)
  · refine (dif_neg (by show ¬1793 < 1792; omega)).trans ?_
    refine (dif_neg (by show ¬1793 - 1792 < 1; omega)).trans ?_
    exact lin_of (j.val / 56) (by omega) _ _ (fun i => (res_main_call5_v6 V0 : FVec Ideal S55 .f32) (ix1 i)) (low5 V0) (high5 V0) (step5 V0)

include h0 h1 h2 h3 h4 h5 in
/-- The reference's distances, negated. -/
theorem ref_dist (b : Fin 4) (j : Fin 3136) (l : Fin 3136) :
    (res_main_v49 V0 : FVec Ideal S4x3136x3136 .f32) (ix3 b j l)
      = -Ideal.sqrt (max ((featR A0 A1 A2 A3 A4 b j : EReal) + (halfR A0 A1 A2 A3 A4 A5 b j l : EReal)) (Ideal.ofBits .f32 0x2B8CBCCC#32)) := by
  have hφ := ref_phi V0 A0 A1 A2 A3 A4 h0 h1 h2 h3 h4 b j
  pointwise [res_main_v49]
  refine congrArg (fun z : EReal => -Ideal.sqrt (max z (Ideal.ofBits .f32 0x2B8CBCCC#32))) ?_
  rw [← EReal.coe_add, half_eq, EReal.coe_sub, EReal.coe_add, EReal.coe_mul, two_word, ← sum_real, ← sum_real, ← sum_real]
  refine congrArg₂ (fun p q : EReal => p - q) (congrArg₂ (fun p q : EReal => p + q) (sum_same fun x => ?_) (sum_same fun x => ?_))
    (congrArg (fun q : EReal => ((2 : ℝ) : EReal) * q) (sum_same fun x => ?_))
  · rw [EReal.coe_mul]
    exact congrArg (fun z : EReal => z * z) (hφ x)
  · rw [EReal.coe_mul]
    exact congrArg (fun z : EReal => z * z) (h5 _)
  · rw [EReal.coe_mul]
    exact congrArg₂ (fun p q : EReal => p * q) (hφ x) (h5 _)

end Cert.Score

end
-- ==== Proof.Score.Soft.lean ====
/- The score as the soft minimum's weight of the least distance, times that distance. -/
module

public import proofs.«01_k».proof.Proof.Score.Weight
public import proofs.«01_k».proof.Proof.Score.Block

@[expose] public section

set_option maxRecDepth 16384

noncomputable section

namespace Cert.Score

open Idealize.ShloMosaic

theorem eps_word : ∃ e : ℝ, 0 < e ∧ Ideal.ofBits .f32 730643660#32 = (e : EReal) := by
  refine ⟨9223372 / 2 ^ 63, by norm_num, ?_⟩
  simp [Ideal.ofBits, Ideal.ieee]
  rw [← EReal.coe_mul]
  norm_num

/-- The distance of which `a` is the squared half and `f` the features' part. -/
def distE (f a : EReal) : EReal := Ideal.sqrt (max (f + a) (Ideal.ofBits .f32 730643660#32))

theorem dist_real (f a : ℝ) : ∃ d : ℝ, distE (f : EReal) (a : EReal) = (d : EReal) := by
  obtain ⟨e, he, hw⟩ := eps_word
  refine ⟨Real.sqrt (max (f + a) e), ?_⟩
  unfold distE
  rw [hw, ← EReal.coe_add, max_real, Ideal.sqrt_coe, if_neg]
  exact not_lt.2 (he.le.trans (le_max_right _ _))

theorem sqrt_mono : Monotone Ideal.sqrt := by
  intro x y h
  induction x using EReal.rec with
  | bot => exact bot_le
  | top =>
    have : y = ⊤ := top_le_iff.1 h
    rw [this]
  | coe r =>
    induction y using EReal.rec with
    | bot => exact absurd h (by simp)
    | top => exact le_top
    | coe s =>
      have hrs : r ≤ s := EReal.coe_le_coe_iff.1 h
      rw [Ideal.sqrt_coe, Ideal.sqrt_coe]
      by_cases hr : r < 0
      · rw [if_pos hr]
        exact bot_le
      · rw [if_neg hr, if_neg (not_lt.2 ((not_lt.1 hr).trans hrs))]
        exact EReal.coe_le_coe_iff.2 (Real.sqrt_le_sqrt hrs)

theorem dist_mono (f : EReal) : Monotone (distE f) := fun _ _ h => sqrt_mono (max_le_max (add_le_add le_rfl h) le_rfl)

theorem soft_real (a b c M : ℝ) :
    Ideal.div (Ideal.exp (-(a : EReal) - (M : EReal)))
        (Ideal.exp (-(a : EReal) - (M : EReal)) + Ideal.exp (-(b : EReal) - (M : EReal)) + Ideal.exp (-(c : EReal) - (M : EReal))) * (a : EReal)
      = Ideal.div (a : EReal) (1 + Ideal.exp ((a : EReal) - (b : EReal)) + Ideal.exp ((a : EReal) - (c : EReal))) := by
  simp only [← EReal.coe_neg, ← EReal.coe_sub, Ideal.exp_coe, ← EReal.coe_add]
  rw [← EReal.coe_one, ← EReal.coe_add, ← EReal.coe_add]
  have p1 := Real.exp_pos (-a - M)
  have p2 := Real.exp_pos (-b - M)
  have p3 := Real.exp_pos (-c - M)
  have q2 := Real.exp_pos (a - b)
  have q3 := Real.exp_pos (a - c)
  have e2 : Real.exp (-b - M) = Real.exp (-a - M) * Real.exp (a - b) := by rw [← Real.exp_add]; congr 1; ring
  have e3 : Real.exp (-c - M) = Real.exp (-a - M) * Real.exp (a - c) := by rw [← Real.exp_add]; congr 1; ring
  rw [div_real _ _ (by positivity), div_real _ _ (by positivity), ← EReal.coe_mul, e2, e3]
  congr 1
  have hs : (1 + Real.exp (a - b) + Real.exp (a - c)) ≠ 0 := by positivity
  field_simp

/-- The soft minimum's weight of the least of three distances, times it, is the score. -/
theorem soft_score (f a b c M : ℝ) :
    Ideal.div (Ideal.exp (-distE (f : EReal) (a : EReal) - (M : EReal)))
        (Ideal.exp (-distE (f : EReal) (a : EReal) - (M : EReal)) + Ideal.exp (-distE (f : EReal) (b : EReal) - (M : EReal))
          + Ideal.exp (-distE (f : EReal) (c : EReal) - (M : EReal))) * distE (f : EReal) (a : EReal)
      = score (f : EReal) (a : EReal) (b : EReal) (c : EReal) := by
  show _ = Ideal.div (distE f a) (1 + Ideal.exp (distE f a - distE f b) + Ideal.exp (distE f a - distE f c))
  obtain ⟨da, ha⟩ := dist_real f a
  obtain ⟨db, hb⟩ := dist_real f b
  obtain ⟨dc, hc⟩ := dist_real f c
  rw [ha, hb, hc]
  exact soft_real da db dc M

/-- The score is determined. -/
theorem Scores.unique {f : Fin 3136 → EReal} {feat z z' : EReal} (h : Scores f feat z) (h' : Scores f feat z') : z = z' := by
  obtain ⟨a, b, c, ha, hb, hc, hz⟩ := h
  obtain ⟨a', b', c', ha', hb', hc', hz'⟩ := h'
  rw [hz, hz', ha.unique ha', hb.unique hb', hc.unique hc']

/-- Every rank of a real family is taken by a real number. -/
theorem kth_real {n : ℕ} (f : Fin n → ℝ) (k : Fin n) : ∃ r : ℝ, IsKth k.val (fun i => (f i : EReal)) (r : EReal) :=
  ⟨_, isKth_sortedFrom (fun i => (f i : EReal)) (fun a b => decide ((f a : EReal) < (f b : EReal))) (fun _ _ => by simp) k⟩

end Cert.Score

end
-- ==== Proof.Score.RefScore.lean ====
/- The reference's scores: the least three distances it sorts out, and the soft minimum over them. -/
module

public import proofs.«01_k».proof.Proof.Score.RefPhi
public import proofs.«01_k».proof.Proof.Score.Soft

@[expose] public section

set_option maxRecDepth 16384

noncomputable section

namespace Cert.Score

open Idealize.ShloMosaic
open Cert.ReferenceIdeal Cert.ReferenceIdeal.Gen Cert.ReferenceIdeal.Value

theorem greater_iff (u v : EReal) : Ideal.cmp .ogt u v = 1#1 ↔ v < u := by
  show BitVec.ofBool (decide (v < u)) = 1#1 ↔ v < u
  by_cases h : v < u <;> simp [h]

theorem along_last (b : Fin 4) (j i : Fin 3136) (p : Fin 3136) : Shape.Idx.along (s := S4x3136x3136) (ix3 b j i) (2 : Fin 3) p = ix3 b j p := by
  funext a
  fin_cases a <;> rfl

/-- The two arrays sorted together, read at a place. -/
theorem sort_at {β : Type} (x : FVec Ideal S4x3136x3136 .f32) (y : S4x3136x3136.Idx → β) (gt : Ideal .f32 → Ideal .f32 → BitVec 1)
    (b : Fin 4) (j i : Fin 3136) : (Host.sort2 S4x3136x3136 2 (fun l r => gt l.1 r.1) x y).1 (ix3 b j i)
      = x (ix3 b j (sortedFrom (fun k k' => gt (x (ix3 b j k)) (x (ix3 b j k')) == 1#1) i)) := by
  unfold Host.sort2
  rw [dif_pos (by decide : 2 < S4x3136x3136.rank)]
  show x (Shape.Idx.along (s := S4x3136x3136) (ix3 b j i) (2 : Fin 3) (sortedFrom (n := 3136) (fun k k' =>
    gt (x (Shape.Idx.along (s := S4x3136x3136) (ix3 b j i) (2 : Fin 3) k)) (x (Shape.Idx.along (s := S4x3136x3136) (ix3 b j i) (2 : Fin 3) k')) == 1#1) i)) = _
  simp only [along_last]

/-- The row sorted greatest first and cut to three: what stands at place `k` is, negated, of rank `k` among the negated row. -/
theorem top_at (x : FVec Ideal S4x3136x3136 .f32) (h : S4x3136x3136.Slices (fun _ => 0) S4x3136x3) (b : Fin 4) (j : Fin 3136) (k : Fin 3) :
    IsKth k.val (fun i : Fin 3136 => -(x (ix3 b j i) : EReal))
      (-((Host.topK S4x3136x3 2 (FloatOps.cmpfTotal (F := Ideal) (φ := .f32) CmpDirection.gt) x h).1 (ix3 b j k) : EReal)) := by
  have key := isKth_sortedFrom (fun i : Fin 3136 => -(x (ix3 b j i) : EReal))
    (fun k k' => FloatOps.cmpfTotal (F := Ideal) (φ := .f32) CmpDirection.gt (x (ix3 b j k)) (x (ix3 b j k')) == 1#1) (fun p q => by
      show (Ideal.cmp .ogt (x (ix3 b j p)) (x (ix3 b j q)) == 1#1) = true ↔ _
      rw [beq_iff_eq]
      exact (greater_iff _ _).trans EReal.neg_lt_neg_iff.symm) ⟨k.val, by omega⟩
  refine Eq.mp (congrArg (fun z : EReal => IsKth k.val (fun i : Fin 3136 => -(x (ix3 b j i) : EReal)) (-z)) ?_) key
  refine Eq.trans (sort_at x (fun i => if hd : 2 < S4x3136x3136.rank then iotaInDim S4x3136x3136 32 ⟨2, hd⟩ i else 0#32) _ b j ⟨k.val, by omega⟩).symm ?_
  refine congrArg _ (funext fun a => Fin.ext ?_)
  fin_cases a
  · show b.val = 0 + b.val
    omega
  · show j.val = 0 + j.val
    omega
  · show k.val = 0 + k.val
    omega

variable (V0 : Valuation τ sig (Elt Ideal))

variable (A0 : S4x256x56x56.Idx → ℝ) (A1 : S4x512x28x28.Idx → ℝ) (A2 : S4x1024x14x14.Idx → ℝ) (A3 : S1792x1794.Idx → ℝ) (A4 : S1792.Idx → ℝ)
  (A5 : S1792x3136.Idx → ℝ)
  (h0 : ∀ i, (V0 (Proc.devRef .tc main_arg0) : FVec Ideal S4x256x56x56 .f32) i = (A0 i : EReal))
  (h1 : ∀ i, (V0 (Proc.devRef .tc main_arg1) : FVec Ideal S4x512x28x28 .f32) i = (A1 i : EReal))
  (h2 : ∀ i, (V0 (Proc.devRef .tc main_arg2) : FVec Ideal S4x1024x14x14 .f32) i = (A2 i : EReal))
  (h3 : ∀ i, (V0 (Proc.devRef .tc main_arg3) : FVec Ideal S1792x1794 .f32) i = (A3 i : EReal))
  (h4 : ∀ i, (V0 (Proc.devRef .tc main_arg4) : FVec Ideal S1792 .f32) i = (A4 i : EReal))
  (h5 : ∀ i, (V0 (Proc.devRef .tc main_arg5) : FVec Ideal S1792x3136 .f32) i = (A5 i : EReal))

include h0 h1 h2 h3 h4 h5 in
/-- The distances the reference keeps, by their ranks. -/
theorem kept_at (b : Fin 4) (j : Fin 3136) (k : Fin 3) (r : ℝ)
    (hr : IsKth k.val (fun l => (halfR A0 A1 A2 A3 A4 A5 b j l : EReal)) (r : EReal)) :
    (res_main_v50 V0 : FVec Ideal S4x3136x3 .f32) (ix3 b j k) = distE (featR A0 A1 A2 A3 A4 b j : EReal) (r : EReal) := by
  pointwise [res_main_v50]
  refine IsKth.unique (top_at (res_main_v49 V0) sliceFits_S4x3136x3136_S4x3136x3 b j k) ?_
  have e : (fun i : Fin 3136 => Neg.neg (α := EReal) ((res_main_v49 V0 : FVec Ideal S4x3136x3136 .f32) (ix3 b j i)))
      = fun i => distE (featR A0 A1 A2 A3 A4 b j : EReal) (halfR A0 A1 A2 A3 A4 A5 b j i : EReal) := by
    funext i
    rw [ref_dist V0 A0 A1 A2 A3 A4 A5 h0 h1 h2 h3 h4 h5 b j i, neg_neg]
    rfl
  rw [e]
  exact hr.map (dist_mono _)

include h0 h1 h2 h3 h4 h5 in
/-- The kept distances are real. -/
theorem kept_real (b : Fin 4) (j : Fin 3136) (k : Fin 3) : ∃ d : ℝ, (res_main_v51 V0 : FVec Ideal S4x3136x3 .f32) (ix3 b j k) = (d : EReal) := by
  obtain ⟨r, hr⟩ := kth_real (halfR A0 A1 A2 A3 A4 A5 b j) ⟨k.val, by omega⟩
  obtain ⟨d, hd⟩ := dist_real (featR A0 A1 A2 A3 A4 b j) r
  refine ⟨-d, ?_⟩
  pointwise [res_main_v51]
  rw [kept_at V0 A0 A1 A2 A3 A4 A5 h0 h1 h2 h3 h4 h5 b j k r hr, hd, EReal.coe_neg]

theorem bottom_word : Ideal.ofBits .f32 4286578688#32 = ⊥ := by
  simp [Ideal.ofBits, Ideal.ieee]

/-- The greatest of some real numbers, of which there is one, is real. -/
theorem fold_real {ι : Type} (s : Finset ι) (f : ι → EReal) (hf : ∀ i, ∃ d : ℝ, f i = (d : EReal)) (i : ι) (hi : i ∈ s) :
    ∃ M : ℝ, max (⊥ : EReal) (s.fold max (⊥ : EReal) f) = (M : EReal) := by
  have hb : (⊥ : EReal) < s.fold max (⊥ : EReal) f := by
    obtain ⟨d, hd⟩ := hf i
    refine lt_of_lt_of_le ?_ (Finset.le_fold_max (f i) |>.2 (Or.inr ⟨i, hi, le_rfl⟩))
    rw [hd]
    exact EReal.bot_lt_coe d
  have ht : s.fold max (⊥ : EReal) f < ⊤ := by
    refine (Finset.fold_max_lt ⊤).2 ⟨by simp, fun x _ => ?_⟩
    obtain ⟨d, hd⟩ := hf x
    rw [hd]
    exact EReal.coe_lt_top d
  rw [max_eq_right bot_le]
  exact ⟨_, (EReal.coe_toReal ht.ne hb.ne').symm⟩

theorem three_sum {f : Fin 3 → EReal} {a b c : EReal} (ha : f 0 = a) (hb : f 1 = b) (hc : f 2 = c) : ∑ k, f k = a + b + c := by
  rw [Fin.sum_univ_three, ha, hb, hc]

theorem three_axes (i : S4x3136x3.Idx) : i = ix3 (i 0) (i 1) (i 2) := by
  funext a
  fin_cases a <;> rfl

include h0 h1 h2 h3 h4 h5 in
/-- The exponentials of the soft minimum: over one real number for all three. -/
theorem soft_at (b : Fin 4) (j : Fin 3136) : ∃ M : ℝ, ∀ k : Fin 3, (res_main_v58 V0 : FVec Ideal S4x3136x3 .f32) (ix3 b j k)
    = Ideal.exp (Neg.neg (α := EReal) ((res_main_v50 V0 : FVec Ideal S4x3136x3 .f32) (ix3 b j k)) - (M : EReal)) := by
  have hf : ∀ i : S4x3136x3.Idx, ∃ d : ℝ, (res_main_v51 V0 : FVec Ideal S4x3136x3 .f32) i = (d : EReal) := fun i => by
    rw [three_axes i]
    exact kept_real V0 A0 A1 A2 A3 A4 A5 h0 h1 h2 h3 h4 h5 _ _ _
  obtain ⟨M, hM⟩ := fold_real (Finset.univ.filter fun i : S4x3136x3.Idx => reducesTo_S4x3136x3_S4x3136_d2.drop i = ix2 b j)
    (fun i => (res_main_v51 V0 : FVec Ideal S4x3136x3 .f32) i) hf (ix3 b j 0) (by
      rw [Finset.mem_filter]
      refine ⟨Finset.mem_univ _, ?_⟩
      funext a
      fin_cases a <;> rfl)
  refine ⟨M, fun k => ?_⟩
  pointwise [res_main_v58]
  have e51 : (res_main_v51 V0 : FVec Ideal S4x3136x3 .f32) (ix3 b j k) = Neg.neg (α := EReal) ((res_main_v50 V0 : FVec Ideal S4x3136x3 .f32) (ix3 b j k)) := by
    pointwise [res_main_v51]
  refine congrArg Ideal.exp (congrArg₂ (fun p q : EReal => p - q) e51 ?_)
  rw [bottom_word]
  exact hM

include h0 h1 h2 h3 h4 h5 in
/-- The reference's score at a position. -/
theorem ref_scores (b : Fin 4) (j : Fin 3136) :
    Scores (fun l => (halfR A0 A1 A2 A3 A4 A5 b j l : EReal)) (featR A0 A1 A2 A3 A4 b j : EReal)
      ((shapeCast S4x3136x1 (mulf (shapeCast S4x3136 (extractStridedSlice S4x3136x1 ![0, 0, 0] (Host.divf (res_main_v58 V0)
        (broadcastInDim S4x3136x3 ![0, 1, 2] bcast_S4x3136x1_S4x3136x3_0_1_2 (broadcastInDim S4x3136x1 ![0, 1] bcast_S4x3136_S4x3136x1_0_1
          (Host.reduceAdd (res_main_v58 V0) (constant S_ .f32 0x00000000#32) reducesTo_S4x3136x3_S4x3136_d2 h_S_)))) slices_S4x3136x3_S4x3136x1_0_0_0)
        shapeCasts_S4x3136x1_S4x3136) (shapeCast S4x3136 (extractStridedSlice S4x3136x1 ![0, 0, 0] (res_main_v50 V0) slices_S4x3136x3_S4x3136x1_0_0_0)
        shapeCasts_S4x3136x1_S4x3136)) shapeCasts_S4x3136_S4x3136x1 : FVec Ideal S4x3136x1 .f32) (ix3 b j 0)) := by
  obtain ⟨r0, k0⟩ := kth_real (halfR A0 A1 A2 A3 A4 A5 b j) ⟨0, by omega⟩
  obtain ⟨r1, k1⟩ := kth_real (halfR A0 A1 A2 A3 A4 A5 b j) ⟨1, by omega⟩
  obtain ⟨r2, k2⟩ := kth_real (halfR A0 A1 A2 A3 A4 A5 b j) ⟨2, by omega⟩
  refine ⟨(r0 : EReal), (r1 : EReal), (r2 : EReal), k0, k1, k2, ?_⟩
  have d0 := kept_at V0 A0 A1 A2 A3 A4 A5 h0 h1 h2 h3 h4 h5 b j 0 r0 k0
  have d1 := kept_at V0 A0 A1 A2 A3 A4 A5 h0 h1 h2 h3 h4 h5 b j 1 r1 k1
  have d2 := kept_at V0 A0 A1 A2 A3 A4 A5 h0 h1 h2 h3 h4 h5 b j 2 r2 k2
  obtain ⟨M, hM⟩ := soft_at V0 A0 A1 A2 A3 A4 A5 h0 h1 h2 h3 h4 h5 b j
  have e0 := hM 0
  have e1 := hM 1
  have e2 := hM 2
  rw [d0] at e0
  rw [d1] at e1
  rw [d2] at e2
  refine Eq.trans ?_ (soft_score (featR A0 A1 A2 A3 A4 b j) r0 r1 r2 M)
  pointwise
  refine congrArg₂ (fun p q : EReal => p * q) (congrArg₂ Ideal.div e0 ?_) d0
  exact three_sum e0 e1 e2

end Cert.Score

end
-- ==== Proof.Score.Algebraic.lean ====
/- The value claim: from equal arguments that are all real, the idealized kernel and the reference end with equal results. -/
module

public import proofs.«01_k».proof.Defs
public import proofs.«01_k».proof.Proof.Score.Finite
public import proofs.«01_k».proof.Proof.Score.KernelPhi
public import proofs.«01_k».proof.Proof.Score.RefScore
public import proofs.«01_k».proof.Proof.Gen.KernelIdeal.Value
public import proofs.«01_k».proof.Proof.Gen.Pre_finite

@[expose] public section

set_option maxRecDepth 16384

noncomputable section

namespace Cert.Score

open Idealize.ShloMosaic Idealize.SL.Sem Idealize.ShloMosaic.StableHlo

section reference

open Cert.ReferenceIdeal Cert.ReferenceIdeal.Gen Cert.ReferenceIdeal.Value

/-- The scores the reference ends with, from the arguments it starts from. -/
def refScore (V0 : Valuation τ sig (Elt Ideal)) : FVec Ideal S4x3136x1 .f32 :=
  shapeCast S4x3136x1 (mulf (shapeCast S4x3136 (extractStridedSlice S4x3136x1 ![0, 0, 0] (Host.divf (res_main_v58 V0)
    (broadcastInDim S4x3136x3 ![0, 1, 2] bcast_S4x3136x1_S4x3136x3_0_1_2 (broadcastInDim S4x3136x1 ![0, 1] bcast_S4x3136_S4x3136x1_0_1
      (Host.reduceAdd (res_main_v58 V0) (constant S_ .f32 0x00000000#32) reducesTo_S4x3136x3_S4x3136_d2 h_S_)))) slices_S4x3136x3_S4x3136x1_0_0_0)
    shapeCasts_S4x3136x1_S4x3136) (shapeCast S4x3136 (extractStridedSlice S4x3136x1 ![0, 0, 0] (res_main_v50 V0) slices_S4x3136x3_S4x3136x1_0_0_0)
    shapeCasts_S4x3136x1_S4x3136)) shapeCasts_S4x3136_S4x3136x1

end reference

section kernel

open Cert.KernelIdeal Cert.KernelIdeal.Gen

variable (m : (ℓ : Loc nD τ sig) → Buf (Elt Ideal) ℓ) (c : Dev nD)

/-- Which block of the output a point writes. -/
theorem idx_out : ∀ t : Fin cfg0.N, win0_10.index t = ![t.val / 4, t.val % 4, 0] := (by decide +kernel : ∀ t : Fin grid0.N, _)

/-- An output array that agrees with every point's block is the one the kernel leaves. -/
theorem array_eq (R : FVec Ideal S4x3136x1 .f32)
    (hR : ∀ (t : Fin cfg0.N) (r : Fin 784), (outsAt0 m c t.val t.isLt).1 (ix3 0 r 0) = R (ix3 (image t) (place t r) 0)) :
    (dats m 0 c).arrAt 10 cfg0.N = R := by
  refine (dats m 0 c).arrAt_eq_of_covers 10 R (by decide +kernel) fun t _ y => ?_
  blk_simp
  rw [after0_10]
  have hy : y = ix3 (0 : Fin 1) (⟨(y 1).val, (y 1).isLt⟩ : Fin 784) (0 : Fin 1) := by
    blk_ext
  rw [hy]
  refine (hR t ⟨(y 1).val, (y 1).isLt⟩).trans (congrArg R ?_)
  blk_ext [idx_out t, image, place]

end kernel

/-- The kernel's output array is the reference's scores. -/
theorem scores_eq (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ)
    (hp : Cert.Pre_KernelIdeal_finite m)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    (Cert.KernelIdeal.Gen.dats m 0 c).arrAt 10 Cert.KernelIdeal.cfg0.N = refScore (launchContents m' c) := by
  obtain ⟨p0, p1, p2, p3, p4, p5⟩ := real_of_pre _ _ _ _ _ _ (hp c)
  choose A0 h0 using p0
  choose A1 h1 using p1
  choose A2 h2 using p2
  choose A3 h3 using p3
  choose A4 h4 using p4
  choose A5 h5 using p5
  refine array_eq m c _ fun t r => ?_
  exact (kernel_scores m c A0 A1 A2 A3 A4 A5 h0 h1 h2 h3 h4 h5 t r).unique
    (ref_scores (launchContents m' c) A0 A1 A2 A3 A4 A5 (fun i => (congrFun e0 i).trans (h0 i)) (fun i => (congrFun e1 i).trans (h1 i))
      (fun i => (congrFun e2 i).trans (h2 i)) (fun i => (congrFun e3 i).trans (h3 i)) (fun i => (congrFun e4 i).trans (h4 i))
      (fun i => (congrFun e5 i).trans (h5 i)) (image t) (place t r))

/-- The run of the idealized kernel, read: the loss is zero, the scores are the output array, the arguments are unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c.tc : Thread Cert.KernelIdeal.nD Cert.KernelIdeal.τ).loc Cert.KernelIdeal.main_v0_0)
          = (constant Cert.KernelIdeal.S_ .f32 0x00000000#32 : FVec Ideal Cert.KernelIdeal.S_ .f32)
        ∧ r.2.mem ((c.tc : Thread Cert.KernelIdeal.nD Cert.KernelIdeal.τ).loc Cert.KernelIdeal.main_v0_1)
          = (Cert.KernelIdeal.Gen.dats m 0 c).arrAt 10 Cert.KernelIdeal.cfg0.N
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5)
          = m ((c.tc : Thread Cert.KernelIdeal.nD Cert.KernelIdeal.τ).loc Cert.KernelIdeal.main_arg5) :=
  (θ_run Cert.KernelIdeal.defs _ _).mono (fun r h c =>
    ⟨((h c).2 Cert.KernelIdeal.main_v0_0 (Pipeline.mem_restRefs_of Cert.KernelIdeal.main_v0_0 (by decide) (by decide))).trans (loss_at m c),
      Cert.KernelIdeal.Value.post10 m r h c,
      Cert.KernelIdeal.Value.kept_main_arg0 m r h c, Cert.KernelIdeal.Value.kept_main_arg1 m r h c, Cert.KernelIdeal.Value.kept_main_arg2 m r h c,
      Cert.KernelIdeal.Value.kept_main_arg3 m r h c, Cert.KernelIdeal.Value.kept_main_arg4 m r h c, Cert.KernelIdeal.Value.kept_main_arg5 m r h c⟩)
    (Cert.KernelIdeal.Gen.run_main m g)

/-- Both results agree: the loss is zero on both sides, the scores are the reference's. -/
theorem algebraic : Cert.algebraic_KernelIdeal_ReferenceIdeal_pre_finite := by
  intro m g m' g' hp hargs
  refine ⟨fun _ => (constant Cert.KernelIdeal.S_ .f32 0x00000000#32 : FVec Ideal Cert.KernelIdeal.S_ .f32), fun c => refScore (launchContents m' c), ?_, ?_⟩
  · refine (θ_run Cert.KernelIdeal.defs _ _).mono (fun r h c => ?_) (kernel_run m g)
    obtain ⟨e0, e1, e2, e3, e4, e5⟩ := hargs c
    obtain ⟨hl, hs, hk⟩ := h c
    exact ⟨hl, hs.trans (scores_eq m c m' hp e0 e1 e2 e3 e4 e5), hk⟩
  · exact Cert.ReferenceIdeal.Value.run (F := Ideal) m' g'

end Cert.Score

end
-- ==== Proof.lean ====
/- The proof of the certificate's claims: the three frames and the naming of the constant (Score/Frames.lean), and the equality of the
results (Score/Algebraic.lean). -/
module

public import proofs.«01_k».proof.Defs
public import proofs.«01_k».proof.Proof.Score.Frames
public import proofs.«01_k».proof.Proof.Score.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Score.frame_kernel, Score.frame_kernelIdeal, Score.frame_kernelIdeal_finite, Score.frame_reference, Score.frame_reference_finite,
  Score.preserves, Score.algebraic⟩

end Cert.Proof

end
